-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_norms_zero_or_not_tiny [hPre_norms_zero_or_not_tiny : Cert.Pre_norms_zero_or_not_tiny.Facts] (m : (ℓ : Loc Cert.KernelIdeal.nD Cert.KernelIdeal.τ Cert.KernelIdeal.sig) → Buf (Elt Ideal) ℓ) : Prop :=
  ∀ c : Dev Cert.KernelIdeal.nD,
    (Cert.Pre_norms_zero_or_not_tiny.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_norms_zero_or_not_tiny [hPre_norms_zero_or_not_tiny : Cert.Pre_norms_zero_or_not_tiny.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_norms_zero_or_not_tiny.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_norms_zero_or_not_tiny [hKernelIdeal : Cert.KernelIdeal.Facts] [hPre_norms_zero_or_not_tiny : Cert.Pre_norms_zero_or_not_tiny.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_norms_zero_or_not_tiny m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_norms_zero_or_not_tiny [hReferenceIdeal : Cert.ReferenceIdeal.Facts] [hPre_norms_zero_or_not_tiny : Cert.Pre_norms_zero_or_not_tiny.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_norms_zero_or_not_tiny m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_norms_zero_or_not_tiny [hKernelIdeal : Cert.KernelIdeal.Facts] [hReferenceIdeal : Cert.ReferenceIdeal.Facts] [hPre_norms_zero_or_not_tiny : Cert.Pre_norms_zero_or_not_tiny.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_norms_zero_or_not_tiny m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_norms_zero_or_not_tiny : Cert.Pre_norms_zero_or_not_tiny.Facts),
    quiescent_Kernel (hKernel := hKernel)
    ∧ quiescent_KernelIdeal (hKernelIdeal := hKernelIdeal)
    ∧ quiescent_KernelIdeal_pre_norms_zero_or_not_tiny (hKernelIdeal := hKernelIdeal) (hPre_norms_zero_or_not_tiny := hPre_norms_zero_or_not_tiny)
    ∧ quiescent_ReferenceIdeal (hReferenceIdeal := hReferenceIdeal)
    ∧ quiescent_ReferenceIdeal_pre_norms_zero_or_not_tiny (hReferenceIdeal := hReferenceIdeal) (hPre_norms_zero_or_not_tiny := hPre_norms_zero_or_not_tiny)
    ∧ preserves_Kernel_KernelIdeal
    ∧ algebraic_KernelIdeal_ReferenceIdeal_pre_norms_zero_or_not_tiny (hKernelIdeal := hKernelIdeal) (hReferenceIdeal := hReferenceIdeal) (hPre_norms_zero_or_not_tiny := hPre_norms_zero_or_not_tiny)
-- ==== Pre_norms_zero_or_not_tiny.lean ====
abbrev S4x256x32x32 : Shape := ⟨4, ![4, 256, 32, 32]⟩
abbrev S4x4x32x32 : Shape := ⟨4, ![4, 4, 32, 32]⟩
abbrev S_ : Shape := ⟨0, ![]⟩
abbrev S4x32x32 : Shape := ⟨3, ![4, 32, 32]⟩

class Facts : Prop where
  reducesTo_S4x256x32x32_S4x32x32_d1 : S4x256x32x32.ReducesTo [1] S4x32x32
  h_S_ : 0 < S_.numel
  bcast_S_S4x32x32 : S_.BroadcastsInDim S4x32x32 (![] : Fin 0 → Fin S4x32x32.rank)
  reducesTo_S4x32x32_S_d0_1_2 : S4x32x32.ReducesTo [0, 1, 2] S_

variable [Facts]

def fn_part1 {F : FTy → Type} [FloatOps F] (main_arg2 : FVec F S4x256x32x32 .f32) (main_v8 : IVec S_ 1) (main_v16 : IVec S4x32x32 1) : IVec S_ 1 :=
  let main_c_5 : IVec S_ 1 := constantI S_ 1 1#1
  let main_v17 : IVec S_ 1 := (fun x v => Host.reduce IntOp.andi x v reducesTo_S4x32x32_S_d0_1_2 h_S_) main_v16 main_c_5
  let main_v18 : IVec S_ 1 := andi main_v8 main_v17
  let main_v19 : FVec F S4x256x32x32 .f32 := mulf main_arg2 main_arg2
  let main_cst_6 : FVec F S_ .f32 := constant S_ .f32 0x00000000#32
  let main_v20 : FVec F S4x32x32 .f32 := (fun x v => Host.reduceAdd x v reducesTo_S4x256x32x32_S4x32x32_d1 h_S_) main_v19 main_cst_6
  let main_v21 : FVec F S4x32x32 .f32 := Host.sqrt main_v20
  let main_cst_7 : FVec F S_ .f32 := constant S_ .f32 0x00000000#32
  let main_v22 : FVec F S4x32x32 .f32 := broadcastInDim S4x32x32 ![] bcast_S_S4x32x32 main_cst_7
  let main_v23 : IVec S4x32x32 1 := cmpf .oeq main_v21 main_v22
  let main_cst_8 : FVec F S_ .f32 := constant S_ .f32 0x2B8CBCCC#32
  let main_v24 : FVec F S4x32x32 .f32 := broadcastInDim S4x32x32 ![] bcast_S_S4x32x32 main_cst_8
  let main_v25 : IVec S4x32x32 1 := cmpf .oge main_v21 main_v24
  let main_v26 : IVec S4x32x32 1 := ori main_v23 main_v25
  let main_c_9 : IVec S_ 1 := constantI S_ 1 1#1
  let main_v27 : IVec S_ 1 := (fun x v => Host.reduce IntOp.andi x v reducesTo_S4x32x32_S_d0_1_2 h_S_) main_v26 main_c_9
  let main_v28 : IVec S_ 1 := andi main_v18 main_v27
  main_v28

def fn {F : FTy → Type} [FloatOps F] (main_arg0 : FVec F S4x256x32x32 .f32) (main_arg1 : FVec F S4x256x32x32 .f32) (main_arg2 : FVec F S4x256x32x32 .f32) (main_arg3 : FVec F S4x4x32x32 .f32) (main_arg4 : FVec F S4x4x32x32 .f32) : IVec S_ 1 :=
  let main_v0 : FVec F S4x256x32x32 .f32 := mulf main_arg0 main_arg0
  let main_cst : FVec F S_ .f32 := constant S_ .f32 0x00000000#32
  let main_v1 : FVec F S4x32x32 .f32 := (fun x v => Host.reduceAdd x v reducesTo_S4x256x32x32_S4x32x32_d1 h_S_) main_v0 main_cst
  let main_v2 : FVec F S4x32x32 .f32 := Host.sqrt main_v1
  let main_cst_0 : FVec F S_ .f32 := constant S_ .f32 0x00000000#32
  let main_v3 : FVec F S4x32x32 .f32 := broadcastInDim S4x32x32 ![] bcast_S_S4x32x32 main_cst_0
  let main_v4 : IVec S4x32x32 1 := cmpf .oeq main_v2 main_v3
  let main_cst_1 : FVec F S_ .f32 := constant S_ .f32 0x2B8CBCCC#32
  let main_v5 : FVec F S4x32x32 .f32 := broadcastInDim S4x32x32 ![] bcast_S_S4x32x32 main_cst_1
  let main_v6 : IVec S4x32x32 1 := cmpf .oge main_v2 main_v5
  let main_v7 : IVec S4x32x32 1 := ori main_v4 main_v6
  let main_c : IVec S_ 1 := constantI S_ 1 1#1
  let main_v8 : IVec S_ 1 := (fun x v => Host.reduce IntOp.andi x v reducesTo_S4x32x32_S_d0_1_2 h_S_) main_v7 main_c
  let main_v9 : FVec F S4x256x32x32 .f32 := mulf main_arg1 main_arg1
  let main_cst_2 : FVec F S_ .f32 := constant S_ .f32 0x00000000#32
  let main_v10 : FVec F S4x32x32 .f32 := (fun x v => Host.reduceAdd x v reducesTo_S4x256x32x32_S4x32x32_d1 h_S_) main_v9 main_cst_2
  let main_v11 : FVec F S4x32x32 .f32 := Host.sqrt main_v10
  let main_cst_3 : FVec F S_ .f32 := constant S_ .f32 0x00000000#32
  let main_v12 : FVec F S4x32x32 .f32 := broadcastInDim S4x32x32 ![] bcast_S_S4x32x32 main_cst_3
  let main_v13 : IVec S4x32x32 1 := cmpf .oeq main_v11 main_v12
  let main_cst_4 : FVec F S_ .f32 := constant S_ .f32 0x2B8CBCCC#32
  let main_v14 : FVec F S4x32x32 .f32 := broadcastInDim S4x32x32 ![] bcast_S_S4x32x32 main_cst_4
  let main_v15 : IVec S4x32x32 1 := cmpf .oge main_v11 main_v14
  let main_v16 : IVec S4x32x32 1 := ori main_v13 main_v15
  fn_part1 (F := F) main_arg2 main_v8 main_v16
-- ==== Kernel.lean ====
abbrev S4x256x32x32 : Shape := ⟨4, ![4, 256, 32, 32]⟩
abbrev S4x4x32x32 : Shape := ⟨4, ![4, 4, 32, 32]⟩
abbrev S4x256x1024 : Shape := ⟨3, ![4, 256, 1024]⟩
abbrev S4x4x1024 : Shape := ⟨3, ![4, 4, 1024]⟩
abbrev S1x1 : Shape := ⟨2, ![1, 1]⟩
abbrev S_ : Shape := ⟨0, ![]⟩
abbrev S4 : Shape := ⟨1, ![4]⟩
abbrev S1 : Shape := ⟨1, ![1]⟩
abbrev S1x256x1024 : Shape := ⟨3, ![1, 256, 1024]⟩
abbrev S256x1024 : Shape := ⟨2, ![256, 1024]⟩
abbrev S1x4x1024 : Shape := ⟨3, ![1, 4, 1024]⟩
abbrev S4x1024 : Shape := ⟨2, ![4, 1024]⟩
abbrev S4x4096 : Shape := ⟨2, ![4, 4096]⟩
abbrev S4096 : Shape := ⟨1, ![4096]⟩
abbrev S1x4096 : Shape := ⟨2, ![1, 4096]⟩
abbrev S4x32x128 : Shape := ⟨3, ![4, 32, 128]⟩
abbrev S4x1x1 : Shape := ⟨3, ![4, 1, 1]⟩
abbrev S128x128 : Shape := ⟨2, ![128, 128]⟩
abbrev S128x1 : Shape := ⟨2, ![128, 1]⟩
abbrev S64x1 : Shape := ⟨2, ![64, 1]⟩
abbrev S1x32x128 : Shape := ⟨3, ![1, 32, 128]⟩
abbrev S32x128 : Shape := ⟨2, ![32, 128]⟩
abbrev S64x4096 : Shape := ⟨2, ![64, 4096]⟩
abbrev S64x256 : Shape := ⟨2, ![64, 256]⟩
abbrev S64x1024 : Shape := ⟨2, ![64, 1024]⟩
abbrev S256x256 : Shape := ⟨2, ![256, 256]⟩
abbrev S256 : Shape := ⟨1, ![256]⟩
abbrev S256x1 : Shape := ⟨2, ![256, 1]⟩
abbrev S1x1024 : Shape := ⟨2, ![1, 1024]⟩
abbrev S1x256 : Shape := ⟨2, ![1, 256]⟩
abbrev S1024 : Shape := ⟨1, ![1024]⟩

abbrev nBuf : Space → Nat
  | .hbm => 11
  | .vmem => 6
  | .smem => 0
  | _ => 0

abbrev bufTy : (tb : Table) → Fin (tcTables nBuf tb) → BufTy
  | .hbm, ⟨0, _⟩ => ⟨S4x256x32x32, .f32⟩
  | .hbm, ⟨1, _⟩ => ⟨S4x256x32x32, .f32⟩
  | .hbm, ⟨2, _⟩ => ⟨S4x256x32x32, .f32⟩
  | .hbm, ⟨3, _⟩ => ⟨S4x4x32x32, .f32⟩
  | .hbm, ⟨4, _⟩ => ⟨S4x4x32x32, .f32⟩
  | .hbm, ⟨5, _⟩ => ⟨S4x256x1024, .f32⟩
  | .hbm, ⟨6, _⟩ => ⟨S4x256x1024, .f32⟩
  | .hbm, ⟨7, _⟩ => ⟨S4x256x1024, .f32⟩
  | .hbm, ⟨8, _⟩ => ⟨S4x4x1024, .f32⟩
  | .hbm, ⟨9, _⟩ => ⟨S4x4x1024, .f32⟩
  | .hbm, ⟨10, _⟩ => ⟨S1x1, .f32⟩
  | .local _ .vmem, ⟨0, _⟩ => ⟨S1x1, .f32⟩
  | .local _ .vmem, ⟨1, _⟩ => ⟨S4x256x1024, .f32⟩
  | .local _ .vmem, ⟨2, _⟩ => ⟨S4x256x1024, .f32⟩
  | .local _ .vmem, ⟨3, _⟩ => ⟨S4x256x1024, .f32⟩
  | .local _ .vmem, ⟨4, _⟩ => ⟨S4x4x1024, .f32⟩
  | .local _ .vmem, ⟨5, _⟩ => ⟨S4x4x1024, .f32⟩
  | _, _ => ⟨S4x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_83 : BitVec 32 := 0#32
  let c50_i32 : BitVec 32 := 50#32
  let v114 : BitVec 32 := Scalar.addi c0_i32_83 c50_i32
  let c1_i32_84 : BitVec 32 := 1#32
  ⟨c0_i32_83, v114, c1_i32_84⟩
abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x256x32x32 : Shape := ⟨4, ![4, 256, 32, 32]⟩
abbrev S4x4x32x32 : Shape := ⟨4, ![4, 4, 32, 32]⟩
abbrev S4x32x32x256 : Shape := ⟨4, ![4, 32, 32, 256]⟩
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S4x32x32 : Shape := ⟨3, ![4, 32, 32]⟩
abbrev S4x1x32x32 : Shape := ⟨4, ![4, 1, 32, 32]⟩
abbrev S1x4096 : Shape := ⟨2, ![1, 4096]⟩
abbrev S4096x4096 : Shape := ⟨2, ![4096, 4096]⟩
abbrev S4096x50 : Shape := ⟨2, ![4096, 50]⟩
abbrev S50x4096 : Shape := ⟨2, ![50, 4096]⟩
abbrev S50x4096x1 : Shape := ⟨3, ![50, 4096, 1]⟩
abbrev S50x4096x256 : Shape := ⟨3, ![50, 4096, 256]⟩
abbrev S1x4096x256 : Shape := ⟨3, ![1, 4096, 256]⟩
abbrev S1x1 : Shape := ⟨2, ![1, 1]⟩

abbrev nBuf : Space → Nat
  | .hbm => 198
  | .vmem => 0
  | .smem => 0
  | _ => 0

abbrev hbmTy0_0 (i : Nat) : BufTy := match i % 128 with
  | 0 => ⟨S4x256x32x32, .f32⟩
  | 1 => ⟨S4x256x32x32, .f32⟩
  | 2 => ⟨S4x256x32x32, .f32⟩
  | 3 => ⟨S4x4x32x32, .f32⟩
  | 4 => ⟨S4x4x32x32, .f32⟩
  | 5 => ⟨S4x32x32x256, .f32⟩
  | 6 => ⟨S4096x256, .f32⟩
  | 7 => ⟨S4096x256, .f32⟩
  | 8 => ⟨S_, .f32⟩
  | 9 => ⟨S4096, .f32⟩
  | 10 => ⟨S4096x1, .f32⟩
  | 11 => ⟨S4096x1, .f32⟩
  | 12 => ⟨S_, .f32⟩
  | 13 => ⟨S4096x1, .f32⟩
  | 14 => ⟨S4096x1, .f32⟩
  | 15 => ⟨S4096x256, .f32⟩
  | 16 => ⟨S4096x256, .f32⟩
  | 17 => ⟨S4x32x32x256, .f32⟩
  | 18 => ⟨S4096x256, .f32⟩
  | 19 => ⟨S4096x256, .f32⟩
  | 20 => ⟨S_, .f32⟩
  | 21 => ⟨S4096, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x256, .f32⟩
  | 28 => ⟨S4096x256, .f32⟩
  | 29 => ⟨S4x32x32x256, .f32⟩
  | 30 => ⟨S4096x256, .f32⟩
  | 31 => ⟨S4096x256, .f32⟩
  | 32 => ⟨S_, .f32⟩
  | 33 => ⟨S4096, .f32⟩
  | 34 => ⟨S4096x1, .f32⟩
  | 35 => ⟨S4096x1, .f32⟩
  | 36 => ⟨S_, .f32⟩
  | 37 => ⟨S4096x1, .f32⟩
  | 38 => ⟨S4096x1, .f32⟩
  | 39 => ⟨S4096x256, .f32⟩
  | 40 => ⟨S4096x256, .f32⟩
  | 41 => ⟨S_, .f32⟩
  | 42 => ⟨S4x32x32, .f32⟩
  | 43 => ⟨S_, .f32⟩
  | 44 => ⟨S4x32x32, .f32⟩
  | 45 => ⟨S4x32x32, .f32⟩
  | 46 => ⟨S4x1x32x32, .f32⟩
  | 47 => ⟨S4x4x32x32, .f32⟩
  | 48 => ⟨S4x4x32x32, .f32⟩
  | 49 => ⟨S4x4x32x32, .f32⟩
  | 50 => ⟨S_, .f32⟩
  | 51 => ⟨S4x32x32, .f32⟩
  | 52 => ⟨S4x1x32x32, .f32⟩
  | 53 => ⟨S4x4x32x32, .f32⟩
  | 54 => ⟨S4x4x32x32, .f32⟩
  | 55 => ⟨S_, .f32⟩
  | 56 => ⟨S4x32x32, .f32⟩
  | 57 => ⟨S_, .f32⟩
  | 58 => ⟨S4x32x32, .f32⟩
  | 59 => ⟨S4x32x32, .f32⟩
  | 60 => ⟨S4x1x32x32, .f32⟩
  | 61 => ⟨S4x4x32x32, .f32⟩
  | 62 => ⟨S4x4x32x32, .f32⟩
  | 63 => ⟨S4x4x32x32, .f32⟩
  | 64 => ⟨S_, .f32⟩
  | 65 => ⟨S4x32x32, .f32⟩
  | 66 => ⟨S4x1x32x32, .f32⟩
  | 67 => ⟨S4x4x32x32, .f32⟩
  | 68 => ⟨S4x4x32x32, .f32⟩
  | 69 => ⟨S4x4x32x32, .i32⟩
  | 70 => ⟨S_, .f32⟩
  | 71 => ⟨S_, .i32⟩
  | 72 => ⟨S4x32x32, .f32⟩
  | 73 => ⟨S4x32x32, .i32⟩
  | 74 => ⟨S4x4x32x32, .i32⟩
  | 75 => ⟨S_, .f32⟩
  | 76 => ⟨S_, .i32⟩
  | 77 => ⟨S4x32x32, .f32⟩
  | 78 => ⟨S4x32x32, .i32⟩
  | 79 => ⟨S_, .f32⟩
  | 80 => ⟨S4x32x32, .f32⟩
  | 81 => ⟨S4096, .i32⟩
  | 82 => ⟨S4096, .i32⟩
  | 83 => ⟨S4096, .f32⟩
  | 84 => ⟨S4096x256, .f32⟩
  | 85 => ⟨S_, .f32⟩
  | 86 => ⟨S4096, .f32⟩
  | 87 => ⟨S4096x256, .f32⟩
  | 88 => ⟨S_, .f32⟩
  | 89 => ⟨S4096, .f32⟩
  | 90 => ⟨S4096, .f32⟩
  | 91 => ⟨S4096x256, .f32⟩
  | 92 => ⟨S_, .f32⟩
  | 93 => ⟨S4096, .f32⟩
  | 94 => ⟨S4096, .f32⟩
  | 95 => ⟨S4096, .f32⟩
  | 96 => ⟨S_, .f32⟩
  | 97 => ⟨S4096, .f32⟩
  | 98 => ⟨S4096, .f32⟩
  | 99 => ⟨S4096, .f32⟩
  | 100 => ⟨S1x4096, .i32⟩
  | 101 => ⟨S4096x1, .i32⟩
  | 102 => ⟨S4096x4096, .i32⟩
  | 103 => ⟨S4096x4096, .i32⟩
  | 104 => ⟨S4096x4096, .i1⟩
  | 105 => ⟨S4096x4096, .f32⟩
  | 106 => ⟨S4096x1, .f32⟩
  | 107 => ⟨S4096x4096, .f32⟩
  | 108 => ⟨S4096x4096, .f32⟩
  | 109 => ⟨S4096x4096, .f32⟩
  | 110 => ⟨S4096x50, .f32⟩
  | 111 => ⟨S4096x50, .i32⟩
  | 112 => ⟨S50x4096, .i32⟩
  | 113 => ⟨S_, .i32⟩
  | 114 => ⟨S50x4096, .i32⟩
  | 115 => ⟨S50x4096, .i1⟩
  | 116 => ⟨S_, .i32⟩
  | 117 => ⟨S50x4096, .i32⟩
  | 118 => ⟨S50x4096, .i32⟩
  | 119 => ⟨S50x4096, .i32⟩
  | 120 => ⟨S50x4096x1, .i32⟩
  | 121 => ⟨S50x4096x256, .f32⟩
  | 122 => ⟨S1x4096x256, .f32⟩
  | 123 => ⟨S50x4096x256, .f32⟩
  | 124 => ⟨S50x4096x256, .f32⟩
  | 125 => ⟨S_, .f32⟩
  | 126 => ⟨S50x4096, .f32⟩
  | 127 => ⟨S50x4096x256, .f32⟩
  | _ => ⟨S4x256x32x32, .f32⟩

abbrev hbmTy0_1 (i : Nat) : BufTy := match i % 128 with
  | 0 => ⟨S_, .f32⟩
  | 1 => ⟨S50x4096, .f32⟩
  | 2 => ⟨S50x4096, .f32⟩
  | 3 => ⟨S50x4096x256, .f32⟩
  | 4 => ⟨S_, .f32⟩
  | 5 => ⟨S50x4096, .f32⟩
  | 6 => ⟨S50x4096, .f32⟩
  | 7 => ⟨S50x4096, .f32⟩
  | 8 => ⟨S_, .f32⟩
  | 9 => ⟨S50x4096, .f32⟩
  | 10 => ⟨S50x4096, .f32⟩
  | 11 => ⟨S50x4096, .f32⟩
  | 12 => ⟨S_, .f32⟩
  | 13 => ⟨S4096, .f32⟩
  | 14 => ⟨S4096, .f32⟩
  | 15 => ⟨S4096, .f32⟩
  | 16 => ⟨S_, .f32⟩
  | 17 => ⟨S50x4096, .f32⟩
  | 18 => ⟨S50x4096, .f32⟩
  | 19 => ⟨S50x4096, .f32⟩
  | 20 => ⟨S_, .f32⟩
  | 21 => ⟨S4096, .f32⟩
  | 22 => ⟨S4096, .f32⟩
  | 23 => ⟨S_, .f32⟩
  | 24 => ⟨S4096, .f32⟩
  | 25 => ⟨S4096, .f32⟩
  | 26 => ⟨S4096, .f32⟩
  | 27 => ⟨S4096, .f32⟩
  | 28 => ⟨S_, .f32⟩
  | 29 => ⟨S_, .f32⟩
  | 30 => ⟨S_, .f32⟩
  | 31 => ⟨S_, .f32⟩
  | 32 => ⟨S_, .f32⟩
  | 33 => ⟨S1x4096x256, .f32⟩
  | 34 => ⟨S50x4096x256, .f32⟩
  | 35 => ⟨S50x4096x256, .f32⟩
  | 36 => ⟨S_, .f32⟩
  | 37 => ⟨S50x4096, .f32⟩
  | 38 => ⟨S50x4096x256, .f32⟩
  | 39 => ⟨S_, .f32⟩
  | 40 => ⟨S50x4096, .f32⟩
  | 41 => ⟨S50x4096, .f32⟩
  | 42 => ⟨S50x4096x256, .f32⟩
  | 43 => ⟨S_, .f32⟩
  | 44 => ⟨S50x4096, .f32⟩
  | 45 => ⟨S50x4096, .f32⟩
  | 46 => ⟨S50x4096, .f32⟩
  | 47 => ⟨S_, .f32⟩
  | 48 => ⟨S50x4096, .f32⟩
  | 49 => ⟨S50x4096, .f32⟩
  | 50 => ⟨S50x4096, .f32⟩
  | 51 => ⟨S_, .f32⟩
  | 52 => ⟨S50x4096, .f32⟩
  | 53 => ⟨S50x4096, .f32⟩
  | 54 => ⟨S50x4096, .f32⟩
  | 55 => ⟨S_, .f32⟩
  | 56 => ⟨S4096, .f32⟩
  | 57 => ⟨S4096, .f32⟩
  | 58 => ⟨S_, .f32⟩
  | 59 => ⟨S4096, .f32⟩
  | 60 => ⟨S4096, .f32⟩
  | 61 => ⟨S4096, .f32⟩
  | 62 => ⟨S4096, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S1x1, .f32⟩
  | _ => ⟨S4x256x32x32, .f32⟩

abbrev hbmTy (i : Nat) : BufTy := match i / 128 with
  | 0 => hbmTy0_0 i
  | 1 => hbmTy0_1 i
  | _ => ⟨S4x256x32x32, .f32⟩

abbrev bufTy : (tb : Table) → Fin (tcTables nBuf tb) → BufTy
  | .hbm, ⟨i, _⟩ => hbmTy i
  | _, _ => ⟨S4x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call2_v0 : Ref sig .tc := ⟨.hbm, 31, rfl⟩
abbrev main_call2_cst : Ref sig .tc := ⟨.hbm, 32, rfl⟩
abbrev main_call2_v1 : Ref sig .tc := ⟨.hbm, 33, rfl⟩
abbrev main_call2_v2 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_call3_v0 : Ref sig .tc := ⟨.hbm, 69, rfl⟩
abbrev main_call3_cst : Ref sig .tc := ⟨.hbm, 70, rfl⟩
abbrev main_call3_c : Ref sig .tc := ⟨.hbm, 71, rfl⟩
abbrev main_call3_v1_0 : Ref sig .tc := ⟨.hbm, 72, rfl⟩
abbrev main_v43 : Ref sig .tc := ⟨.hbm, 73, rfl⟩
abbrev main_call4_v0 : Ref sig .tc := ⟨.hbm, 74, rfl⟩
abbrev main_call4_cst : Ref sig .tc := ⟨.hbm, 75, rfl⟩
abbrev main_call4_c : Ref sig .tc := ⟨.hbm, 76, rfl⟩
abbrev main_call4_v1_0 : Ref sig .tc := ⟨.hbm, 77, rfl⟩
abbrev main_v44 : Ref sig .tc := ⟨.hbm, 78, rfl⟩
abbrev main_cst_8 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_9 : Ref sig .tc := ⟨.hbm, 85, rfl⟩
abbrev main_v50 : Ref sig .tc := ⟨.hbm, 86, rfl⟩
abbrev main_call5_v0 : Ref sig .tc := ⟨.hbm, 87, rfl⟩
abbrev main_call5_cst : Ref sig .tc := ⟨.hbm, 88, rfl⟩
abbrev main_call5_v1 : Ref sig .tc := ⟨.hbm, 89, rfl⟩
abbrev main_v51 : Ref sig .tc := ⟨.hbm, 90, rfl⟩
abbrev main_call6_v0 : Ref sig .tc := ⟨.hbm, 91, rfl⟩
abbrev main_call6_cst : Ref sig .tc := ⟨.hbm, 92, rfl⟩
abbrev main_call6_v1 : Ref sig .tc := ⟨.hbm, 93, rfl⟩
abbrev main_v52 : Ref sig .tc := ⟨.hbm, 94, rfl⟩
abbrev main_v53 : Ref sig .tc := ⟨.hbm, 95, rfl⟩
abbrev main_cst_10 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_values : Ref sig .tc := ⟨.hbm, 110, rfl⟩
abbrev main_indices : Ref sig .tc := ⟨.hbm, 111, rfl⟩
abbrev main_v67 : Ref sig .tc := ⟨.hbm, 112, rfl⟩
abbrev main_c : Ref sig .tc := ⟨.hbm, 113, rfl⟩
abbrev main_v68 : Ref sig .tc := ⟨.hbm, 114, rfl⟩
abbrev main_v69 : Ref sig .tc := ⟨.hbm, 115, rfl⟩
abbrev main_c_11 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_cst_12 : Ref sig .tc := ⟨.hbm, 125, rfl⟩
abbrev main_v78 : Ref sig .tc := ⟨.hbm, 126, rfl⟩
abbrev main_call7_v0 : Ref sig .tc := ⟨.hbm, 127, rfl⟩
abbrev main_call7_cst : Ref sig .tc := ⟨.hbm, 128, rfl⟩
abbrev main_call7_v1 : Ref sig .tc := ⟨.hbm, 129, rfl⟩
abbrev main_v79 : Ref sig .tc := ⟨.hbm, 130, rfl⟩
abbrev main_call8_v0 : Ref sig .tc := ⟨.hbm, 131, rfl⟩
abbrev main_call8_cst : Ref sig .tc := ⟨.hbm, 132, rfl⟩
abbrev main_call8_v1 : Ref sig .tc := ⟨.hbm, 133, rfl⟩
abbrev main_v80 : Ref sig .tc := ⟨.hbm, 134, rfl⟩
abbrev main_v81 : Ref sig .tc := ⟨.hbm, 135, rfl⟩
abbrev main_cst_13 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_14 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_15 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_cst_16 : Ref sig .tc := ⟨.hbm, 148, rfl⟩
abbrev main_v91 : Ref sig .tc := ⟨.hbm, 149, rfl⟩
abbrev main_v92 : Ref sig .tc := ⟨.hbm, 150, rfl⟩
abbrev main_cst_17 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_cst_18 : Ref sig .tc := ⟨.hbm, 156, rfl⟩
abbrev main_v97 : Ref sig .tc := ⟨.hbm, 157, rfl⟩
abbrev main_cst_19 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_cst_20 : Ref sig .tc := ⟨.hbm, 164, rfl⟩
abbrev main_v103 : Ref sig .tc := ⟨.hbm, 165, rfl⟩
abbrev main_call9_v0 : Ref sig .tc := ⟨.hbm, 166, rfl⟩
abbrev main_call9_cst : Ref sig .tc := ⟨.hbm, 167, rfl⟩
abbrev main_call9_v1 : Ref sig .tc := ⟨.hbm, 168, rfl⟩
abbrev main_v104 : Ref sig .tc := ⟨.hbm, 169, rfl⟩
abbrev main_call10_v0 : Ref sig .tc := ⟨.hbm, 170, rfl⟩
abbrev main_call10_cst : Ref sig .tc := ⟨.hbm, 171, rfl⟩
abbrev main_call10_v1 : Ref sig .tc := ⟨.hbm, 172, rfl⟩
abbrev main_v105 : Ref sig .tc := ⟨.hbm, 173, rfl⟩
abbrev main_v106 : Ref sig .tc := ⟨.hbm, 174, rfl⟩
abbrev main_cst_21 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_cst_22 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_cst_23 : Ref sig .tc := ⟨.hbm, 183, rfl⟩
abbrev main_v113 : Ref sig .tc := ⟨.hbm, 184, rfl⟩
abbrev main_v114 : Ref sig .tc := ⟨.hbm, 185, rfl⟩
abbrev main_cst_24 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_cst_25 : Ref sig .tc := ⟨.hbm, 191, rfl⟩
abbrev main_v119 : Ref sig .tc := ⟨.hbm, 192, rfl⟩
abbrev main_cst_26 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩

abbrev nD : Nat := 1
abbrev τ : Topo := Topo.v7x

variable {F : FTy → Type} [FloatOps F]
-- ==== Proof.Setup.lean ====
/- The set-up of the launch: the buffers and semaphores the kernel's body is handed, named one by one. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The kernel body on any staging memrefs: a subtype the run finds -/

/-- Each window's current staging memref at point `t`, spelled as the pipeline passes it (`bodyAt0`), and its wholeness. -/
abbrev ms0_0 (t : Fin cfg0.N) : Memref sig .tc .vmem S1x1 .f32 := win0_0.stage (cfg0.slots t 0)
abbrev hs0_0 (t : Fin cfg0.N) : (ms0_0 t).IsWhole := hstage0_0 0
/-- The scratch operands: whole scoped buffers of the kernel's own, passed beside the windows. -/
abbrev scM0_0 : Memref sig .tc .vmem S4x256x1024 .f32 := Memref.whole cc0_scratch0
abbrev scM0_1 : Memref sig .tc .vmem S4x256x1024 .f32 := Memref.whole cc0_scratch1
abbrev scM0_2 : Memref sig .tc .vmem S4x256x1024 .f32 := Memref.whole cc0_scratch2
abbrev scM0_3 : Memref sig .tc .vmem S4x4x1024 .f32 := Memref.whole cc0_scratch3
abbrev scM0_4 : Memref sig .tc .vmem S4x4x1024 .f32 := Memref.whole cc0_scratch4
/-- The operands left in HBM that the body copies into scratch itself, whole. -/
abbrev hbM0_0 : Memref sig .tc .hbm S4x256x1024 .f32 := Memref.whole main_v0
abbrev hbM0_1 : Memref sig .tc .hbm S4x256x1024 .f32 := Memref.whole main_v1
abbrev hbM0_2 : Memref sig .tc .hbm S4x256x1024 .f32 := Memref.whole main_v2
abbrev hbM0_3 : Memref sig .tc .hbm S4x4x1024 .f32 := Memref.whole main_v3
abbrev hbM0_4 : Memref sig .tc .hbm S4x4x1024 .f32 := Memref.whole main_v4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 11 → SemLoc sig := fun j => (![SemLoc.dma 1, SemLoc.dma 2, SemLoc.dma 3, SemLoc.dma 4, SemLoc.dma 5, SemLoc.dma 6, SemLoc.dma 7, SemLoc.dma 8, SemLoc.dma 9, SemLoc.dma 10, SemLoc.dma 11] : Fin 11 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) := by
  rw [Pipeline.ownSems0_eq_of_list c osem0 [0, 1, 2, 3, 4, 5, 6, 7, 8, 9, 10] (by decide) (by decide)]; rfl
/-- The HBM operands the body moves, as references: unscoped, no window's array (`Pipeline.restRefs`). -/
def H0 : Finset (Ref sig .tc) := {main_v0, main_v1, main_v2, main_v3, main_v4}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0) ∗ hbPt0 c hbM0_1 (V m c main_v1) ∗ hbPt0 c hbM0_2 (V m c main_v2) ∗ hbPt0 c hbM0_3 (V m c main_v3) ∗ hbPt0 c hbM0_4 (V m c main_v4)) := by
  rw [BI.bigSep_eq_bigSepL_of_eq [main_v0, main_v1, main_v2, main_v3, main_v4] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ iprop(hbPt0 c hbM0_0 (V m c main_v0) ∗ hbPt0 c hbM0_1 (V m c main_v1) ∗ hbPt0 c hbM0_2 (V m c main_v2) ∗ hbPt0 c hbM0_3 (V m c main_v3) ∗ hbPt0 c hbM0_4 (V m c main_v4))) := by
  rw [Pipeline.ΦD_eq, scopedRest0_eq, ownSems00_eq, hbmPts0_eq]; simp only [scM0_0, scM0_1, scM0_2, scM0_3, scM0_4, owns_whole]; try rfl

end Cert.KernelIdeal.Run

end
-- ==== Proof.Slabs.lean ====
/- The copies of one batch entry at a time: what a slab of a scratch buffer holds once its copy is done. -/
module

public import proofs.«01_k».proof.Proof.Setup

@[expose] public section

noncomputable section

namespace Cert.KernelIdeal.Run

open Cert.KernelIdeal.Gen
open Idealize.ShloMosaic Idealize.ShloMosaic.TcCoe

variable {F : FTy → Type} [FloatOps F]

/-- Batch entry `b` of a `[4, 256, 1024]` array, with a leading axis of one. -/
def slab (X : Vec F S4x256x1024 .f32) (b : Fin 4) : Vec F S1x256x1024 .f32 :=
  fun i => X (fun d => match d with | ⟨0, _⟩ => b | ⟨1, _⟩ => i 1 | ⟨2, _⟩ => i 2)

/-- Batch entry `b` of a `[4, 4, 1024]` array, with a leading axis of one. -/
def slabL (X : Vec F S4x4x1024 .f32) (b : Fin 4) : Vec F S1x4x1024 .f32 :=
  fun i => X (fun d => match d with | ⟨0, _⟩ => b | ⟨1, _⟩ => i 1 | ⟨2, _⟩ => i 2)

section views
variable {Val : EltTy → Type}

/-- A slice read back after what another buffer's slice holds has been written into it whole, both under the same
    reshape, is the other buffer's slice. -/
theorem read_copied {sg : RefSig} {κ κ' : Kind} {sp sp' : Space} {s' s'' : Shape} {e : EltTy} (v : View sg κ sp s' e) (v' : View sg κ' sp' s' e)
    (h : s''.numel = s'.numel) (f : v.ty.Contents Val) (f' : v'.ty.Contents Val) :
    v.read Val ((v.reshape s'' h).write Val f ((v'.reshape s'' h).read Val f') Finset.univ) = v'.read Val f' := by
  rw [View.write_reshape_univ, View.read_write_univ]
  funext x
  simp only [View.read]
  congr 2
  simp

/-- A slice read after a write into a slice disjoint from it, under a reshape, is the slice before the write. -/
theorem read_elsewhere {sg : RefSig} {κ : Kind} {sp : Space} {s s'' : Shape} {e : EltTy} (v : View sg κ sp s e) (r r' : Rect s)
    (hd : Disjoint r.set r'.set)
    (h : s''.numel = r'.shape.numel) (f : v.ty.Contents Val) (w : s''.Idx → Val e) :
    (v.slice r).read Val (((v.slice r').reshape s'' h).write Val f w Finset.univ) = (v.slice r).read Val f := by
  rw [View.write_reshape_univ, View.read_slice_write_slice_of_disjoint]
  rw [View.setOn_univ, View.set_slice, View.set_slice]
  exact (Finset.disjoint_map _).mpr hd

/-- A box read after one write of the whole buffer holds what was written there. -/
theorem readCov_whole [∀ e, Nonempty (Val e)] {sg : RefSig} {κ : Kind} {sp : Space} {s : Shape} {e : EltTy} (v : View sg κ sp s e)
    (w : s.Idx → Val e) (B : LoadRect s) : v.readCov [⟨Rect.whole s, w⟩] B = fun x => w (B.idx x) := by
  funext x
  exact View.read_writes_cons_hit v v.junk (Rect.whole s) w [] (B.idx x) (B.idx x) (Rect.emb_whole_apply s _)

end views

/-- The scratch after its four copies, started in order: batch entry by batch entry, out of `X`. -/
abbrev copied (M : Memref sig .tc .vmem S4x256x1024 .f32) (M' : Memref sig .tc .hbm S4x256x1024 .f32)
    (f : M.view.ty.Contents (Elt F)) (f' : M'.view.ty.Contents (Elt F)) : M.view.ty.Contents (Elt F) :=
  (View.write (Elt F) ((M.slice (Rect.unit (s := S4x256x1024) ![3, 0, 0] S1x256x1024.size inb_S4x256x1024_S1x256x1024_3_0_0) (fun _ => rfl)).squeeze S256x1024 squeezes_S1x256x1024_S256x1024).view
      (View.write (Elt F) ((M.slice (Rect.unit (s := S4x256x1024) ![2, 0, 0] S1x256x1024.size inb_S4x256x1024_S1x256x1024_2_0_0) (fun _ => rfl)).squeeze S256x1024 squeezes_S1x256x1024_S256x1024).view
      (View.write (Elt F) ((M.slice (Rect.unit (s := S4x256x1024) ![1, 0, 0] S1x256x1024.size inb_S4x256x1024_S1x256x1024_1_0_0) (fun _ => rfl)).squeeze S256x1024 squeezes_S1x256x1024_S256x1024).view
      (View.write (Elt F) ((M.slice (Rect.unit (s := S4x256x1024) ![0, 0, 0] S1x256x1024.size inb_S4x256x1024_S1x256x1024_0_0_0) (fun _ => rfl)).squeeze S256x1024 squeezes_S1x256x1024_S256x1024).view
      f
      (View.read (Elt F) ((M'.slice (Rect.unit (s := S4x256x1024) ![0, 0, 0] S1x256x1024.size inb_S4x256x1024_S1x256x1024_0_0_0) (fun _ => rfl)).squeeze S256x1024 squeezes_S1x256x1024_S256x1024).view f') Finset.univ)
      (View.read (Elt F) ((M'.slice (Rect.unit (s := S4x256x1024) ![1, 0, 0] S1x256x1024.size inb_S4x256x1024_S1x256x1024_1_0_0) (fun _ => rfl)).squeeze S256x1024 squeezes_S1x256x1024_S256x1024).view f') Finset.univ)
      (View.read (Elt F) ((M'.slice (Rect.unit (s := S4x256x1024) ![2, 0, 0] S1x256x1024.size inb_S4x256x1024_S1x256x1024_2_0_0) (fun _ => rfl)).squeeze S256x1024 squeezes_S1x256x1024_S256x1024).view f') Finset.univ)
      (View.read (Elt F) ((M'.slice (Rect.unit (s := S4x256x1024) ![3, 0, 0] S1x256x1024.size inb_S4x256x1024_S1x256x1024_3_0_0) (fun _ => rfl)).squeeze S256x1024 squeezes_S1x256x1024_S256x1024).view f') Finset.univ)

/-- A box of a whole array is the array at the box's places. -/
theorem read_box (M' : Memref sig .tc .hbm S4x256x1024 .f32) (r : Rect S4x256x1024) (f' : M'.view.ty.Contents (Elt F)) (x : r.shape.Idx) :
    (M'.view.slice r).read (Elt F) f' x = M'.view.read (Elt F) f' (r.emb x) := rfl

/-- Batch entry 0 of the scratch after its copies is batch entry 0 of the array copied. -/
theorem copied_0 (M : Memref sig .tc .vmem S4x256x1024 .f32) (M' : Memref sig .tc .hbm S4x256x1024 .f32)
    (f : M.view.ty.Contents (Elt F)) (f' : M'.view.ty.Contents (Elt F)) :
    M.view.readAt (Elt F) (Rect.unit (s := S4x256x1024) ![0, 0, 0] S1x256x1024.size inb_S4x256x1024_S1x256x1024_0_0_0).toLoadRect (copied M M' f f') = slab (M'.view.read (Elt F) f') 0 := by
  rw [View.readAt_rect]
  refine (read_elsewhere M.view (Rect.unit (s := S4x256x1024) ![0, 0, 0] S1x256x1024.size inb_S4x256x1024_S1x256x1024_0_0_0) (Rect.unit (s := S4x256x1024) ![3, 0, 0] S1x256x1024.size inb_S4x256x1024_S1x256x1024_3_0_0) (Rect.unit_disjoint 0 (by decide)) _ _ _).trans ?_
  refine (read_elsewhere M.view (Rect.unit (s := S4x256x1024) ![0, 0, 0] S1x256x1024.size inb_S4x256x1024_S1x256x1024_0_0_0) (Rect.unit (s := S4x256x1024) ![2, 0, 0] S1x256x1024.size inb_S4x256x1024_S1x256x1024_2_0_0) (Rect.unit_disjoint 0 (by decide)) _ _ _).trans ?_
  refine (read_elsewhere M.view (Rect.unit (s := S4x256x1024) ![0, 0, 0] S1x256x1024.size inb_S4x256x1024_S1x256x1024_0_0_0) (Rect.unit (s := S4x256x1024) ![1, 0, 0] S1x256x1024.size inb_S4x256x1024_S1x256x1024_1_0_0) (Rect.unit_disjoint 0 (by decide)) _ _ _).trans ?_
  refine (read_copied (M.view.slice (Rect.unit (s := S4x256x1024) ![0, 0, 0] S1x256x1024.size inb_S4x256x1024_S1x256x1024_0_0_0)) (M'.view.slice (Rect.unit (s := S4x256x1024) ![0, 0, 0] S1x256x1024.size inb_S4x256x1024_S1x256x1024_0_0_0)) _ _ _).trans ?_
  funext x
  rw [read_box]
  unfold slab
  congr 1
  funext d
  apply Fin.ext
  fin_cases d
  · have h0 : (x 0).val < 1 := (x 0).isLt
    show 0 + 1 * (x 0).val = 0
    omega
  · show 0 + 1 * (x 1).val = (x 1).val
    omega
  · show 0 + 1 * (x 2).val = (x 2).val
    omega

/-- Batch entry 1 of the scratch after its copies is batch entry 1 of the array copied. -/
theorem copied_1 (M : Memref sig .tc .vmem S4x256x1024 .f32) (M' : Memref sig .tc .hbm S4x256x1024 .f32)
    (f : M.view.ty.Contents (Elt F)) (f' : M'.view.ty.Contents (Elt F)) :
    M.view.readAt (Elt F) (Rect.unit (s := S4x256x1024) ![1, 0, 0] S1x256x1024.size inb_S4x256x1024_S1x256x1024_1_0_0).toLoadRect (copied M M' f f') = slab (M'.view.read (Elt F) f') 1 := by
  rw [View.readAt_rect]
  refine (read_elsewhere M.view (Rect.unit (s := S4x256x1024) ![1, 0, 0] S1x256x1024.size inb_S4x256x1024_S1x256x1024_1_0_0) (Rect.unit (s := S4x256x1024) ![3, 0, 0] S1x256x1024.size inb_S4x256x1024_S1x256x1024_3_0_0) (Rect.unit_disjoint 0 (by decide)) _ _ _).trans ?_
  refine (read_elsewhere M.view (Rect.unit (s := S4x256x1024) ![1, 0, 0] S1x256x1024.size inb_S4x256x1024_S1x256x1024_1_0_0) (Rect.unit (s := S4x256x1024) ![2, 0, 0] S1x256x1024.size inb_S4x256x1024_S1x256x1024_2_0_0) (Rect.unit_disjoint 0 (by decide)) _ _ _).trans ?_
  refine (read_copied (M.view.slice (Rect.unit (s := S4x256x1024) ![1, 0, 0] S1x256x1024.size inb_S4x256x1024_S1x256x1024_1_0_0)) (M'.view.slice (Rect.unit (s := S4x256x1024) ![1, 0, 0] S1x256x1024.size inb_S4x256x1024_S1x256x1024_1_0_0)) _ _ _).trans ?_
  funext x
  rw [read_box]
  unfold slab
  congr 1
  funext d
  apply Fin.ext
  fin_cases d
  · have h0 : (x 0).val < 1 := (x 0).isLt
    show 1 + 1 * (x 0).val = 1
    omega
  · show 0 + 1 * (x 1).val = (x 1).val
    omega
  · show 0 + 1 * (x 2).val = (x 2).val
    omega

/-- Batch entry 2 of the scratch after its copies is batch entry 2 of the array copied. -/
theorem copied_2 (M : Memref sig .tc .vmem S4x256x1024 .f32) (M' : Memref sig .tc .hbm S4x256x1024 .f32)
    (f : M.view.ty.Contents (Elt F)) (f' : M'.view.ty.Contents (Elt F)) :
    M.view.readAt (Elt F) (Rect.unit (s := S4x256x1024) ![2, 0, 0] S1x256x1024.size inb_S4x256x1024_S1x256x1024_2_0_0).toLoadRect (copied M M' f f') = slab (M'.view.read (Elt F) f') 2 := by
  rw [View.readAt_rect]
  refine (read_elsewhere M.view (Rect.unit (s := S4x256x1024) ![2, 0, 0] S1x256x1024.size inb_S4x256x1024_S1x256x1024_2_0_0) (Rect.unit (s := S4x256x1024) ![3, 0, 0] S1x256x1024.size inb_S4x256x1024_S1x256x1024_3_0_0) (Rect.unit_disjoint 0 (by decide)) _ _ _).trans ?_
  refine (read_copied (M.view.slice (Rect.unit (s := S4x256x1024) ![2, 0, 0] S1x256x1024.size inb_S4x256x1024_S1x256x1024_2_0_0)) (M'.view.slice (Rect.unit (s := S4x256x1024) ![2, 0, 0] S1x256x1024.size inb_S4x256x1024_S1x256x1024_2_0_0)) _ _ _).trans ?_
  funext x
  rw [read_box]
  unfold slab
  congr 1
  funext d
  apply Fin.ext
  fin_cases d
  · have h0 : (x 0).val < 1 := (x 0).isLt
    show 2 + 1 * (x 0).val = 2
    omega
  · show 0 + 1 * (x 1).val = (x 1).val
    omega
  · show 0 + 1 * (x 2).val = (x 2).val
    omega

/-- Batch entry 3 of the scratch after its copies is batch entry 3 of the array copied. -/
theorem copied_3 (M : Memref sig .tc .vmem S4x256x1024 .f32) (M' : Memref sig .tc .hbm S4x256x1024 .f32)
    (f : M.view.ty.Contents (Elt F)) (f' : M'.view.ty.Contents (Elt F)) :
    M.view.readAt (Elt F) (Rect.unit (s := S4x256x1024) ![3, 0, 0] S1x256x1024.size inb_S4x256x1024_S1x256x1024_3_0_0).toLoadRect (copied M M' f f') = slab (M'.view.read (Elt F) f') 3 := by
  rw [View.readAt_rect]
  refine (read_copied (M.view.slice (Rect.unit (s := S4x256x1024) ![3, 0, 0] S1x256x1024.size inb_S4x256x1024_S1x256x1024_3_0_0)) (M'.view.slice (Rect.unit (s := S4x256x1024) ![3, 0, 0] S1x256x1024.size inb_S4x256x1024_S1x256x1024_3_0_0)) _ _ _).trans ?_
  funext x
  rw [read_box]
  unfold slab
  congr 1
  funext d
  apply Fin.ext
  fin_cases d
  · have h0 : (x 0).val < 1 := (x 0).isLt
    show 3 + 1 * (x 0).val = 3
    omega
  · show 0 + 1 * (x 1).val = (x 1).val
    omega
  · show 0 + 1 * (x 2).val = (x 2).val
    omega

/-- A box of one batch entry, read after one write of the whole scratch, is that batch entry of what was written. -/
theorem box_slab (M : Memref sig .tc .vmem S4x256x1024 .f32) (w : Vec F S4x256x1024 .f32) (b : Fin 4)
    (off : Fin 3 → ℕ) (inb : ∀ a, off a + S1x256x1024.size a ≤ S4x256x1024.size a) (h : off = ![b.val, 0, 0]) :
    M.view.readCov [⟨Rect.whole S4x256x1024, w⟩] (Rect.unit (s := S4x256x1024) off S1x256x1024.size inb).toLoadRect = slab w b := by
  subst h
  rw [readCov_whole]
  funext x
  unfold slab
  congr 1
  funext d
  apply Fin.ext
  fin_cases d
  · have h0 : (x 0).val < 1 := (x 0).isLt
    show b.val + 1 * (x 0).val = b.val
    omega
  · show 0 + 1 * (x 1).val = (x 1).val
    omega
  · show 0 + 1 * (x 2).val = (x 2).val
    omega

/-- The same for a scratch of logits. -/
theorem box_slabL (M : Memref sig .tc .vmem S4x4x1024 .f32) (w : Vec F S4x4x1024 .f32) (b : Fin 4)
    (off : Fin 3 → ℕ) (inb : ∀ a, off a + S1x4x1024.size a ≤ S4x4x1024.size a) (h : off = ![b.val, 0, 0]) :
    M.view.readCov [⟨Rect.whole S4x4x1024, w⟩] (Rect.unit (s := S4x4x1024) off S1x4x1024.size inb).toLoadRect = slabL w b := by
  subst h
  rw [readCov_whole]
  funext x
  unfold slabL
  congr 1
  funext d
  apply Fin.ext
  fin_cases d
  · have h0 : (x 0).val < 1 := (x 0).isLt
    show b.val + 1 * (x 0).val = b.val
    omega
  · show 0 + 1 * (x 1).val = (x 1).val
    omega
  · show 0 + 1 * (x 2).val = (x 2).val
    omega

end Cert.KernelIdeal.Run

end
-- ==== Proof.Model.lean ====
/- The value the kernel's body leaves, as a chain of pure vector expressions in the five arrays. -/
module

public import proofs.«01_k».proof.Proof.Slabs

@[expose] public section

noncomputable section

namespace Cert.KernelIdeal.Run

open Cert.KernelIdeal.Gen
open Idealize.ShloMosaic Idealize.ShloMosaic.TcCoe

variable {F : FTy → Type} [FloatOps F]
def m0 (X P G : Vec F S4x256x1024 .f32) (L M : Vec F S4x4x1024 .f32) : FVec F S4x4096 .f32 :=
  k0_pay2 (slabL M 0) (slabL M 1) (slabL M 2) (slabL M 3)

def m1 (X P G : Vec F S4x256x1024 .f32) (L M : Vec F S4x4x1024 .f32) : FVec F S4x4096 .f32 :=
  k0_pay3 (slabL L 0) (slabL L 1) (slabL L 2) (slabL L 3)

def m2 (X P G : Vec F S4x256x1024 .f32) (L M : Vec F S4x4x1024 .f32) : FVec F S4x1x1 .f32 :=
  Scf.fold (n := Scf.trips k0_t1_loop.lb k0_t1_loop.ub k0_t1_loop.st) (fun _ acc => k0_pay7 (m0 X P G L M) acc) (k0_pay6 (F := F))

def m3 (X P G : Vec F S4x256x1024 .f32) (L M : Vec F S4x4x1024 .f32) : FVec F S1x4096 .f32 :=
  k0_pay4 (m1 X P G L M)

def m4 (X P G : Vec F S4x256x1024 .f32) (L M : Vec F S4x4x1024 .f32) : IVec S4x32x128 1 :=
  k0_pay8 (m0 X P G L M) (m2 X P G L M)

def m5 (X P G : Vec F S4x256x1024 .f32) (L M : Vec F S4x4x1024 .f32) : IVec S4x32x128 1 :=
  k0_pay9 (m0 X P G L M) (m2 X P G L M)

def m6 (X P G : Vec F S4x256x1024 .f32) (L M : Vec F S4x4x1024 .f32) : FVec F S4x1x1 .f32 :=
  k0_pay10 (m0 X P G L M) (m2 X P G L M)

def m7 (X P G : Vec F S4x256x1024 .f32) (L M : Vec F S4x4x1024 .f32) : FVec F S4x32x128 .f32 :=
  k0_pay17 (m4 X P G L M) (m5 X P G L M) (m6 X P G L M) (k0_pay12 k0_pay11) (iota .tc S128x128 32 [0] iota_S128x128_d0_w32) (iota .tc S128x128 32 [1] iota_S128x128_d1_w32) k0_pay13 k0_pay14 k0_pay15 k0_pay16

def m8 (X P G : Vec F S4x256x1024 .f32) (L M : Vec F S4x4x1024 .f32) : FVec F S64x4096 .f32 :=
  k0_pay19 (m4 X P G L M) (m5 X P G L M) (m6 X P G L M) (k0_pay12 k0_pay11) (iota .tc S128x128 32 [0] iota_S128x128_d0_w32) (iota .tc S128x128 32 [1] iota_S128x128_d1_w32) k0_pay13 k0_pay14 k0_pay15 k0_pay16

def m9 (X P G : Vec F S4x256x1024 .f32) (L M : Vec F S4x4x1024 .f32) : FVec F S64x1024 .f32 :=
  k0_pay21 (m4 X P G L M) (m5 X P G L M) (m6 X P G L M) (k0_pay12 k0_pay11) (iota .tc S128x128 32 [0] iota_S128x128_d0_w32) (iota .tc S128x128 32 [1] iota_S128x128_d1_w32) k0_pay13 k0_pay14 k0_pay15 k0_pay16

def m10 (X P G : Vec F S4x256x1024 .f32) (L M : Vec F S4x4x1024 .f32) : FVec F S64x256 .f32 :=
  k0_pay22 (m8 X P G L M) k0_pay20 (m9 X P G L M) (slab G 0) (slab G 1) (slab G 2) (slab G 3)

def m11 (X P G : Vec F S4x256x1024 .f32) (L M : Vec F S4x4x1024 .f32) : FVec F S64x4096 .f32 :=
  k0_pay23 (m7 X P G L M) k0_pay18

def m12 (X P G : Vec F S4x256x1024 .f32) (L M : Vec F S4x4x1024 .f32) : FVec F S64x256 .f32 :=
  k0_pay24 (m7 X P G L M) k0_pay18 (slab G 0) (slab G 1)

def m13 (X P G : Vec F S4x256x1024 .f32) (L M : Vec F S4x4x1024 .f32) : FVec F S64x256 .f32 :=
  k0_pay25 (m11 X P G L M) (m12 X P G L M) (slab G 2) (slab G 3)

def m14 (X P G : Vec F S4x256x1024 .f32) (L M : Vec F S4x4x1024 .f32) : FVec F S64x256 .f32 :=
  k0_pay27 (m7 X P G L M) k0_pay18 (slab G 0) (slab G 1) (slab G 2)

def m15 (X P G : Vec F S4x256x1024 .f32) (L M : Vec F S4x4x1024 .f32) : FVec F S64x1024 .f32 :=
  k0_pay28 (m7 X P G L M) k0_pay18

def m16 (X P G : Vec F S4x256x1024 .f32) (L M : Vec F S4x4x1024 .f32) : FVec F S256x256 .f32 :=
  k0_pay29 (m7 X P G L M) k0_pay18 (m10 X P G L M) (m13 X P G L M) (m14 X P G L M) (m15 X P G L M) (slab G 3) (slab G 0) (slab G 1) (slab G 2) (slab G 3)

def m17 (X P G : Vec F S4x256x1024 .f32) (L M : Vec F S4x4x1024 .f32) : FVec F S256x256 .f32 :=
  k0_pay30 (m7 X P G L M) k0_pay18 (m10 X P G L M) (m13 X P G L M) (m14 X P G L M) (m15 X P G L M) (slab G 3) (slab G 0) (slab G 1) (slab G 2) (slab G 3)

def m18 (X P G : Vec F S4x256x1024 .f32) (L M : Vec F S4x4x1024 .f32) : FVec F S256x256 .f32 :=
  k0_pay31 (m16 X P G L M) (m17 X P G L M)

def m19 (X P G : Vec F S4x256x1024 .f32) (L M : Vec F S4x4x1024 .f32) : FVec F S256x1024 .f32 :=
  k0_pay34 (slab X 0)

def m20 (X P G : Vec F S4x256x1024 .f32) (L M : Vec F S4x4x1024 .f32) : FVec F S256x1024 .f32 :=
  k0_pay35 (slab P 0)

def m21 (X P G : Vec F S4x256x1024 .f32) (L M : Vec F S4x4x1024 .f32) : FVec F S1x1024 .f32 :=
  k0_pay36 (m3 X P G L M)

def m22 (X P G : Vec F S4x256x1024 .f32) (L M : Vec F S4x4x1024 .f32) : FVec F S1x1024 .f32 :=
  k0_pay37 (m19 X P G L M)

def m23 (X P G : Vec F S4x256x1024 .f32) (L M : Vec F S4x4x1024 .f32) : FVec F S1x1024 .f32 :=
  k0_pay38 (slab P 0)

def m24 (X P G : Vec F S4x256x1024 .f32) (L M : Vec F S4x4x1024 .f32) : FVec F S1x1024 .f32 :=
  k0_pay39 (m19 X P G L M) (slab P 0)

def m25 (X P G : Vec F S4x256x1024 .f32) (L M : Vec F S4x4x1024 .f32) : FVec F S64x1024 .f32 :=
  k0_pay40 (m3 X P G L M) (m18 X P G L M) (m19 X P G L M)

def m26 (X P G : Vec F S4x256x1024 .f32) (L M : Vec F S4x4x1024 .f32) : FVec F S1x1024 .f32 :=
  k0_pay41 (m18 X P G L M) (k0_pay32 (F := F)) (m20 X P G L M) (m21 X P G L M) (m23 X P G L M) (m24 X P G L M)

def m27 (X P G : Vec F S4x256x1024 .f32) (L M : Vec F S4x4x1024 .f32) : FVec F S1x1024 .f32 :=
  k0_pay42 (k0_pay32 (F := F)) (m22 X P G L M) (m24 X P G L M) (m25 X P G L M) (FloatOps.ofBits FTy.f32 0x3D8F5C29#32)

def m28 (X P G : Vec F S4x256x1024 .f32) (L M : Vec F S4x4x1024 .f32) : FVec F S1x1 .f32 :=
  k0_pay44 k0_pay33 (m24 X P G L M) (m26 X P G L M) (m27 X P G L M) (k0_pay43 (F := F))

def m29 (X P G : Vec F S4x256x1024 .f32) (L M : Vec F S4x4x1024 .f32) : FVec F S256x1024 .f32 :=
  k0_pay45 (slab X 1)

def m30 (X P G : Vec F S4x256x1024 .f32) (L M : Vec F S4x4x1024 .f32) : FVec F S256x1024 .f32 :=
  k0_pay46 (slab P 1)

def m31 (X P G : Vec F S4x256x1024 .f32) (L M : Vec F S4x4x1024 .f32) : FVec F S1x1024 .f32 :=
  k0_pay47 (m3 X P G L M)

def m32 (X P G : Vec F S4x256x1024 .f32) (L M : Vec F S4x4x1024 .f32) : FVec F S1x1024 .f32 :=
  k0_pay48 (slab X 1)

def m33 (X P G : Vec F S4x256x1024 .f32) (L M : Vec F S4x4x1024 .f32) : FVec F S256x1024 .f32 :=
  k0_pay49 (slab P 1)

def m34 (X P G : Vec F S4x256x1024 .f32) (L M : Vec F S4x4x1024 .f32) : FVec F S1x1024 .f32 :=
  k0_pay50 (m33 X P G L M)

def m35 (X P G : Vec F S4x256x1024 .f32) (L M : Vec F S4x4x1024 .f32) : FVec F S1x1024 .f32 :=
  k0_pay51 (m29 X P G L M) (m30 X P G L M) (m32 X P G L M) (m33 X P G L M)

def m36 (X P G : Vec F S4x256x1024 .f32) (L M : Vec F S4x4x1024 .f32) : FVec F S1x1024 .f32 :=
  k0_pay52 (m18 X P G L M) (k0_pay32 (F := F)) (m29 X P G L M) (m30 X P G L M) (m31 X P G L M) (m32 X P G L M) (m33 X P G L M)

def m37 (X P G : Vec F S4x256x1024 .f32) (L M : Vec F S4x4x1024 .f32) : FVec F S256x1024 .f32 :=
  k0_pay53 (m18 X P G L M) (m30 X P G L M)

def m38 (X P G : Vec F S4x256x1024 .f32) (L M : Vec F S4x4x1024 .f32) : FVec F S1x1 .f32 :=
  k0_pay54 (k0_pay32 (F := F)) (m28 X P G L M) (m31 X P G L M) (m34 X P G L M) (m35 X P G L M) (m36 X P G L M) (m37 X P G L M)

def m39 (X P G : Vec F S4x256x1024 .f32) (L M : Vec F S4x4x1024 .f32) : FVec F S256x1024 .f32 :=
  k0_pay55 (slab X 2)

def m40 (X P G : Vec F S4x256x1024 .f32) (L M : Vec F S4x4x1024 .f32) : FVec F S256x1024 .f32 :=
  k0_pay56 (slab P 2)

def m41 (X P G : Vec F S4x256x1024 .f32) (L M : Vec F S4x4x1024 .f32) : FVec F S1x1024 .f32 :=
  k0_pay57 (m3 X P G L M)

def m42 (X P G : Vec F S4x256x1024 .f32) (L M : Vec F S4x4x1024 .f32) : FVec F S1x1024 .f32 :=
  k0_pay58 (slab X 2)

def m43 (X P G : Vec F S4x256x1024 .f32) (L M : Vec F S4x4x1024 .f32) : FVec F S1x1024 .f32 :=
  k0_pay59 (slab P 2)

def m44 (X P G : Vec F S4x256x1024 .f32) (L M : Vec F S4x4x1024 .f32) : FVec F S1x1024 .f32 :=
  k0_pay60 (slab X 2) (slab P 2)

def m45 (X P G : Vec F S4x256x1024 .f32) (L M : Vec F S4x4x1024 .f32) : FVec F S1x1024 .f32 :=
  k0_pay61 (m44 X P G L M) (FloatOps.ofBits FTy.f32 0x3D8F5C29#32)

def m46 (X P G : Vec F S4x256x1024 .f32) (L M : Vec F S4x4x1024 .f32) : FVec F S1x1024 .f32 :=
  k0_pay62 (m18 X P G L M) (k0_pay32 (F := F)) (m39 X P G L M) (m41 X P G L M) (m42 X P G L M) (m44 X P G L M) (FloatOps.ofBits FTy.f32 0x3D8F5C29#32)

def m47 (X P G : Vec F S4x256x1024 .f32) (L M : Vec F S4x4x1024 .f32) : FVec F S256x1024 .f32 :=
  k0_pay63 (m18 X P G L M) (m40 X P G L M)

def m48 (X P G : Vec F S4x256x1024 .f32) (L M : Vec F S4x4x1024 .f32) : FVec F S64x1024 .f32 :=
  k0_pay64 (m18 X P G L M) (m40 X P G L M) (m41 X P G L M)

def m49 (X P G : Vec F S4x256x1024 .f32) (L M : Vec F S4x4x1024 .f32) : FVec F S1x1 .f32 :=
  k0_pay65 (k0_pay32 (F := F)) (m38 X P G L M) (m41 X P G L M) (m43 X P G L M) (m45 X P G L M) (m46 X P G L M) (m47 X P G L M) (m48 X P G L M) (FloatOps.ofBits FTy.f32 0x40400000#32)

def m50 (X P G : Vec F S4x256x1024 .f32) (L M : Vec F S4x4x1024 .f32) : FVec F S256x1024 .f32 :=
  k0_pay67 (slab P 3)

def m51 (X P G : Vec F S4x256x1024 .f32) (L M : Vec F S4x4x1024 .f32) : FVec F S1x1024 .f32 :=
  k0_pay68 (m3 X P G L M)

def m52 (X P G : Vec F S4x256x1024 .f32) (L M : Vec F S4x4x1024 .f32) : FVec F S1x1024 .f32 :=
  k0_pay69 (slab X 3)

def m53 (X P G : Vec F S4x256x1024 .f32) (L M : Vec F S4x4x1024 .f32) : FVec F S1x1024 .f32 :=
  k0_pay70 (slab P 3)

def m54 (X P G : Vec F S4x256x1024 .f32) (L M : Vec F S4x4x1024 .f32) : FVec F S1x1024 .f32 :=
  k0_pay71 (slab X 3) (slab P 3)

def m55 (X P G : Vec F S4x256x1024 .f32) (L M : Vec F S4x4x1024 .f32) : FVec F S256x1024 .f32 :=
  k0_pay72 (m18 X P G L M) (slab X 3)

def m56 (X P G : Vec F S4x256x1024 .f32) (L M : Vec F S4x4x1024 .f32) : FVec F S64x1024 .f32 :=
  k0_pay73 (m3 X P G L M) (m18 X P G L M) (slab X 3)

def m57 (X P G : Vec F S4x256x1024 .f32) (L M : Vec F S4x4x1024 .f32) : IVec S1x1024 1 :=
  k0_pay74 (m3 X P G L M)

def m58 (X P G : Vec F S4x256x1024 .f32) (L M : Vec F S4x4x1024 .f32) : FVec F S1x1024 .f32 :=
  k0_pay75 (k0_pay32 (F := F)) (m51 X P G L M) (m52 X P G L M) (m54 X P G L M) (m55 X P G L M) (m56 X P G L M) (m57 X P G L M)

def m59 (X P G : Vec F S4x256x1024 .f32) (L M : Vec F S4x4x1024 .f32) : FVec F S64x1024 .f32 :=
  k0_pay76 (m18 X P G L M) (m50 X P G L M) (m51 X P G L M) (m53 X P G L M)

def m60 (X P G : Vec F S4x256x1024 .f32) (L M : Vec F S4x4x1024 .f32) : IVec S64x1024 1 :=
  k0_pay77 (k0_pay32 (F := F))

/-- What the body stores: one number, from the feature arrays `X`, `P`, `G` and the logits `L`, `M`. -/
def outVal (X P G : Vec F S4x256x1024 .f32) (L M : Vec F S4x4x1024 .f32) : FVec F S1x1 .f32 :=
  k0_pay1 (m49 X P G L M) (m54 X P G L M) (m58 X P G L M) (m59 X P G L M) (m60 X P G L M) (k0_pay78 (F := F))

end Cert.KernelIdeal.Run

end
-- ==== Proof.Body.lean ====
/- The run of the kernel's body. -/
module

public import proofs.«01_k».proof.Proof.Model
public import Idealize.ShloMosaic.Lib.VecWindow

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
set_option maxHeartbeats 1000000 in set_option sl_exec.dmaWindow true in set_option sl_exec.dmaWindowSet true in
/-- The body's triple: on whole staging memrefs, the output's and the scratch at anything, the body runs to the
    continuation holding the output's buffer at `outVal` of the five arrays it copies in, the scratch at some contents
    and the arrays as they were. -/
theorem kernelRun0_A (c : Dev nD) (arg5 : Memref sig .tc .vmem S1x1 .f32) (harg5 : arg5.IsWhole) (arg6 : Memref sig .tc .vmem S4x256x1024 .f32) (harg6 : arg6.IsWhole) (arg7 : Memref sig .tc .vmem S4x256x1024 .f32) (harg7 : arg7.IsWhole) (arg8 : Memref sig .tc .vmem S4x256x1024 .f32) (harg8 : arg8.IsWhole) (arg9 : Memref sig .tc .vmem S4x4x1024 .f32) (harg9 : arg9.IsWhole) (arg10 : Memref sig .tc .vmem S4x4x1024 .f32) (harg10 : arg10.IsWhole)
     (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) :
      ∀ (W : Waits sig Unit) (K : PUnit → sProp 𝕄),
        iprop((∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ hbPt0 c hbM0_2 fh2 ∗ hbPt0 c hbM0_3 fh3 ∗ hbPt0 c hbM0_4 fh4 ∗ owes (c : Thread nD τ) 0 W
            ∗ (iprop(owns (c : Thread nD τ) arg5 fullShare (outVal fh0 fh1 fh2 fh3 fh4) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ hbPt0 c hbM0_2 fh2 ∗ hbPt0 c hbM0_3 fh3 ∗ hbPt0 c hbM0_4 fh4 ∗ (∃ W', owes (c : Thread nD τ) 0 W')) -∗ K ⟨⟩))
          ⊢ wp frame (wpE (defs₀ (F := F)) Variants.none c none) Set.univ (cc0__loss_kernel (Memref.whole main_v0) (Memref.isWhole_whole _) (Memref.whole main_v1) (Memref.isWhole_whole _) (Memref.whole main_v2) (Memref.isWhole_whole _) (Memref.whole main_v3) (Memref.isWhole_whole _) (Memref.whole main_v4) (Memref.isWhole_whole _) arg5 harg5 arg6 harg6 arg7 harg7 arg8 harg8 arg9 harg9 arg10 harg10 cc0_scratch5 cc0_scratch6 cc0_scratch7 cc0_scratch8 cc0_scratch9) K := by
    intro W K
    simp only [cc0__loss_kernel_eq_skeleton]; unfold cc0__loss_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%d0, %f0, -, H0⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hq2, Hq3, Hq4, Hq5, Hq6, Hq7, Hq8, Hq9, Hq10, Hh0, Hh1, Hh2, Hh3, Hh4, HW, Hk⟩
    sl_exec
    sl_step
    iapply Hk
    isplitl [H0]
    · iexists _; isplitr; swap; · iexact H0
      ipureintro
      refine (View.read_writes_full arg5.view f0 inb_S1x1_S1x1_0_0 _ []).trans ?_
      unfold outVal
      have ev372 : kernelRun0_A.sl.v372 c arg6 fh0 fs0 = slab fh0 0 := copied_0 arg6 hbM0_0 fs0 fh0
      have ev374 : kernelRun0_A.sl.v374 c arg7 fh1 fs1 = slab fh1 0 := copied_0 arg7 hbM0_1 fs1 fh1
      have ev225 : kernelRun0_A.sl.v225 c arg8 fh2 = slab fh2 0 := box_slab arg8 fh2 0 _ _ rfl
      have ev48 : kernelRun0_A.sl.v48 c arg9 fh3 = slabL fh3 0 := box_slabL arg9 fh3 0 _ _ rfl
      have ev57 : kernelRun0_A.sl.v57 c arg10 fh4 = slabL fh4 0 := box_slabL arg10 fh4 0 _ _ rfl
      have ev487 : kernelRun0_A.sl.v487 c arg6 fh0 fs0 = slab fh0 1 := copied_1 arg6 hbM0_0 fs0 fh0
      have ev489 : kernelRun0_A.sl.v489 c arg7 fh1 fs1 = slab fh1 1 := copied_1 arg7 hbM0_1 fs1 fh1
      have ev230 : kernelRun0_A.sl.v230 c arg8 fh2 = slab fh2 1 := box_slab arg8 fh2 1 _ _ rfl
      have ev50 : kernelRun0_A.sl.v50 c arg9 fh3 = slabL fh3 1 := box_slabL arg9 fh3 1 _ _ rfl
      have ev59 : kernelRun0_A.sl.v59 c arg10 fh4 = slabL fh4 1 := box_slabL arg10 fh4 1 _ _ rfl
      have ev602 : kernelRun0_A.sl.v602 c arg6 fh0 fs0 = slab fh0 2 := copied_2 arg6 hbM0_0 fs0 fh0
      have ev604 : kernelRun0_A.sl.v604 c arg7 fh1 fs1 = slab fh1 2 := copied_2 arg7 hbM0_1 fs1 fh1
      have ev235 : kernelRun0_A.sl.v235 c arg8 fh2 = slab fh2 2 := box_slab arg8 fh2 2 _ _ rfl
      have ev52 : kernelRun0_A.sl.v52 c arg9 fh3 = slabL fh3 2 := box_slabL arg9 fh3 2 _ _ rfl
      have ev61 : kernelRun0_A.sl.v61 c arg10 fh4 = slabL fh4 2 := box_slabL arg10 fh4 2 _ _ rfl
      have ev717 : kernelRun0_A.sl.v717 c arg6 fh0 fs0 = slab fh0 3 := copied_3 arg6 hbM0_0 fs0 fh0
      have ev719 : kernelRun0_A.sl.v719 c arg7 fh1 fs1 = slab fh1 3 := copied_3 arg7 hbM0_1 fs1 fh1
      have ev240 : kernelRun0_A.sl.v240 c arg8 fh2 = slab fh2 3 := box_slab arg8 fh2 3 _ _ rfl
      have ev54 : kernelRun0_A.sl.v54 c arg9 fh3 = slabL fh3 3 := box_slabL arg9 fh3 3 _ _ rfl
      have ev63 : kernelRun0_A.sl.v63 c arg10 fh4 = slabL fh4 3 := box_slabL arg10 fh4 3 _ _ rfl
      have em0 : kernelRun0_A.sl.r c arg10 fh4 = m0 fh0 fh1 fh2 fh3 fh4 := by unfold kernelRun0_A.sl.r m0; rw [ev57, ev59, ev61, ev63] <;> rfl
      have em1 : kernelRun0_A.sl.r_1 c arg9 fh3 = m1 fh0 fh1 fh2 fh3 fh4 := by unfold kernelRun0_A.sl.r_1 m1; rw [ev48, ev50, ev52, ev54] <;> rfl
      have em2 : kernelRun0_A.sl.r_2 c arg10 fh4 = m2 fh0 fh1 fh2 fh3 fh4 := by unfold kernelRun0_A.sl.r_2 m2; rw [em0] <;> rfl
      have em3 : kernelRun0_A.sl.r_3 c arg9 fh3 = m3 fh0 fh1 fh2 fh3 fh4 := by unfold kernelRun0_A.sl.r_3 m3; rw [em1] <;> rfl
      have em4 : kernelRun0_A.sl.r_4 c arg10 fh4 = m4 fh0 fh1 fh2 fh3 fh4 := by unfold kernelRun0_A.sl.r_4 m4; rw [em0, em2] <;> rfl
      have em5 : kernelRun0_A.sl.r_5 c arg10 fh4 = m5 fh0 fh1 fh2 fh3 fh4 := by unfold kernelRun0_A.sl.r_5 m5; rw [em0, em2] <;> rfl
      have em6 : kernelRun0_A.sl.r_6 c arg10 fh4 = m6 fh0 fh1 fh2 fh3 fh4 := by unfold kernelRun0_A.sl.r_6 m6; rw [em0, em2] <;> rfl
      have em7 : kernelRun0_A.sl.r_7 c arg10 fh4 = m7 fh0 fh1 fh2 fh3 fh4 := by unfold kernelRun0_A.sl.r_7 m7; rw [em4, em5, em6] <;> rfl
      have em8 : kernelRun0_A.sl.r_8 c arg10 fh4 = m8 fh0 fh1 fh2 fh3 fh4 := by unfold kernelRun0_A.sl.r_8 m8; rw [em4, em5, em6] <;> rfl
      have em9 : kernelRun0_A.sl.r_9 c arg10 fh4 = m9 fh0 fh1 fh2 fh3 fh4 := by unfold kernelRun0_A.sl.r_9 m9; rw [em4, em5, em6] <;> rfl
      have em10 : kernelRun0_A.sl.r_10 c arg8 arg10 fh2 fh4 = m10 fh0 fh1 fh2 fh3 fh4 := by unfold kernelRun0_A.sl.r_10 m10; rw [em8, em9, ev225, ev230, ev235, ev240] <;> rfl
      have em11 : kernelRun0_A.sl.r_11 c arg10 fh4 = m11 fh0 fh1 fh2 fh3 fh4 := by unfold kernelRun0_A.sl.r_11 m11; rw [em7] <;> rfl
      have em12 : kernelRun0_A.sl.r_12 c arg8 arg10 fh2 fh4 = m12 fh0 fh1 fh2 fh3 fh4 := by unfold kernelRun0_A.sl.r_12 m12; rw [em7, ev225, ev230] <;> rfl
      have em13 : kernelRun0_A.sl.r_13 c arg8 arg10 fh2 fh4 = m13 fh0 fh1 fh2 fh3 fh4 := by unfold kernelRun0_A.sl.r_13 m13; rw [em11, em12, ev235, ev240] <;> rfl
      have em14 : kernelRun0_A.sl.r_14 c arg8 arg10 fh2 fh4 = m14 fh0 fh1 fh2 fh3 fh4 := by unfold kernelRun0_A.sl.r_14 m14; rw [em7, ev225, ev230, ev235] <;> rfl
      have em15 : kernelRun0_A.sl.r_15 c arg10 fh4 = m15 fh0 fh1 fh2 fh3 fh4 := by unfold kernelRun0_A.sl.r_15 m15; rw [em7] <;> rfl
      have em16 : kernelRun0_A.sl.r_16 c arg8 arg10 fh2 fh4 = m16 fh0 fh1 fh2 fh3 fh4 := by unfold kernelRun0_A.sl.r_16 m16; rw [em7, em10, em13, em14, em15, ev240, ev225, ev230, ev235] <;> rfl
      have em17 : kernelRun0_A.sl.r_17 c arg8 arg10 fh2 fh4 = m17 fh0 fh1 fh2 fh3 fh4 := by unfold kernelRun0_A.sl.r_17 m17; rw [em7, em10, em13, em14, em15, ev240, ev225, ev230, ev235] <;> rfl
      have em18 : kernelRun0_A.sl.r_18 c arg8 arg10 fh2 fh4 = m18 fh0 fh1 fh2 fh3 fh4 := by unfold kernelRun0_A.sl.r_18 m18; rw [em16, em17] <;> rfl
      have em19 : kernelRun0_A.sl.r_19 c arg6 fh0 fs0 = m19 fh0 fh1 fh2 fh3 fh4 := by unfold kernelRun0_A.sl.r_19 m19; rw [ev372] <;> rfl
      have em20 : kernelRun0_A.sl.r_20 c arg7 fh1 fs1 = m20 fh0 fh1 fh2 fh3 fh4 := by unfold kernelRun0_A.sl.r_20 m20; rw [ev374] <;> rfl
      have em21 : kernelRun0_A.sl.r_21 c arg9 fh3 = m21 fh0 fh1 fh2 fh3 fh4 := by unfold kernelRun0_A.sl.r_21 m21; rw [em3] <;> rfl
      have em22 : kernelRun0_A.sl.r_22 c arg6 fh0 fs0 = m22 fh0 fh1 fh2 fh3 fh4 := by unfold kernelRun0_A.sl.r_22 m22; rw [em19] <;> rfl
      have em23 : kernelRun0_A.sl.r_23 c arg7 fh1 fs1 = m23 fh0 fh1 fh2 fh3 fh4 := by unfold kernelRun0_A.sl.r_23 m23; rw [ev374] <;> rfl
      have em24 : kernelRun0_A.sl.r_24 c arg6 arg7 fh0 fh1 fs0 fs1 = m24 fh0 fh1 fh2 fh3 fh4 := by unfold kernelRun0_A.sl.r_24 m24; rw [em19, ev374] <;> rfl
      have em25 : kernelRun0_A.sl.r_25 c arg6 arg8 arg9 arg10 fh0 fh2 fh3 fh4 fs0 = m25 fh0 fh1 fh2 fh3 fh4 := by unfold kernelRun0_A.sl.r_25 m25; rw [em3, em18, em19] <;> rfl
      have em26 : kernelRun0_A.sl.r_26 c arg6 arg7 arg8 arg9 arg10 fh0 fh1 fh2 fh3 fh4 fs0 fs1 = m26 fh0 fh1 fh2 fh3 fh4 := by unfold kernelRun0_A.sl.r_26 m26; rw [em18, em20, em21, em23, em24] <;> rfl
      have em27 : kernelRun0_A.sl.r_27 c arg6 arg7 arg8 arg9 arg10 fh0 fh1 fh2 fh3 fh4 fs0 fs1 = m27 fh0 fh1 fh2 fh3 fh4 := by unfold kernelRun0_A.sl.r_27 m27; rw [em22, em24, em25] <;> rfl
      have em28 : kernelRun0_A.sl.r_28 c arg6 arg7 arg8 arg9 arg10 fh0 fh1 fh2 fh3 fh4 fs0 fs1 = m28 fh0 fh1 fh2 fh3 fh4 := by unfold kernelRun0_A.sl.r_28 m28; rw [em24, em26, em27] <;> rfl
      have em29 : kernelRun0_A.sl.r_29 c arg6 fh0 fs0 = m29 fh0 fh1 fh2 fh3 fh4 := by unfold kernelRun0_A.sl.r_29 m29; rw [ev487] <;> rfl
      have em30 : kernelRun0_A.sl.r_30 c arg7 fh1 fs1 = m30 fh0 fh1 fh2 fh3 fh4 := by unfold kernelRun0_A.sl.r_30 m30; rw [ev489] <;> rfl
      have em31 : kernelRun0_A.sl.r_31 c arg9 fh3 = m31 fh0 fh1 fh2 fh3 fh4 := by unfold kernelRun0_A.sl.r_31 m31; rw [em3] <;> rfl
      have em32 : kernelRun0_A.sl.r_32 c arg6 fh0 fs0 = m32 fh0 fh1 fh2 fh3 fh4 := by unfold kernelRun0_A.sl.r_32 m32; rw [ev487] <;> rfl
      have em33 : kernelRun0_A.sl.r_33 c arg7 fh1 fs1 = m33 fh0 fh1 fh2 fh3 fh4 := by unfold kernelRun0_A.sl.r_33 m33; rw [ev489] <;> rfl
      have em34 : kernelRun0_A.sl.r_34 c arg7 fh1 fs1 = m34 fh0 fh1 fh2 fh3 fh4 := by unfold kernelRun0_A.sl.r_34 m34; rw [em33] <;> rfl
      have em35 : kernelRun0_A.sl.r_35 c arg6 arg7 fh0 fh1 fs0 fs1 = m35 fh0 fh1 fh2 fh3 fh4 := by unfold kernelRun0_A.sl.r_35 m35; rw [em29, em30, em32, em33] <;> rfl
      have em36 : kernelRun0_A.sl.r_36 c arg6 arg7 arg8 arg9 arg10 fh0 fh1 fh2 fh3 fh4 fs0 fs1 = m36 fh0 fh1 fh2 fh3 fh4 := by unfold kernelRun0_A.sl.r_36 m36; rw [em18, em29, em30, em31, em32, em33] <;> rfl
      have em37 : kernelRun0_A.sl.r_37 c arg7 arg8 arg10 fh1 fh2 fh4 fs1 = m37 fh0 fh1 fh2 fh3 fh4 := by unfold kernelRun0_A.sl.r_37 m37; rw [em18, em30] <;> rfl
      have em38 : kernelRun0_A.sl.r_38 c arg6 arg7 arg8 arg9 arg10 fh0 fh1 fh2 fh3 fh4 fs0 fs1 = m38 fh0 fh1 fh2 fh3 fh4 := by unfold kernelRun0_A.sl.r_38 m38; rw [em28, em31, em34, em35, em36, em37] <;> rfl
      have em39 : kernelRun0_A.sl.r_39 c arg6 fh0 fs0 = m39 fh0 fh1 fh2 fh3 fh4 := by unfold kernelRun0_A.sl.r_39 m39; rw [ev602] <;> rfl
      have em40 : kernelRun0_A.sl.r_40 c arg7 fh1 fs1 = m40 fh0 fh1 fh2 fh3 fh4 := by unfold kernelRun0_A.sl.r_40 m40; rw [ev604] <;> rfl
      have em41 : kernelRun0_A.sl.r_41 c arg9 fh3 = m41 fh0 fh1 fh2 fh3 fh4 := by unfold kernelRun0_A.sl.r_41 m41; rw [em3] <;> rfl
      have em42 : kernelRun0_A.sl.r_42 c arg6 fh0 fs0 = m42 fh0 fh1 fh2 fh3 fh4 := by unfold kernelRun0_A.sl.r_42 m42; rw [ev602] <;> rfl
      have em43 : kernelRun0_A.sl.r_43 c arg7 fh1 fs1 = m43 fh0 fh1 fh2 fh3 fh4 := by unfold kernelRun0_A.sl.r_43 m43; rw [ev604] <;> rfl
      have em44 : kernelRun0_A.sl.r_44 c arg6 arg7 fh0 fh1 fs0 fs1 = m44 fh0 fh1 fh2 fh3 fh4 := by unfold kernelRun0_A.sl.r_44 m44; rw [ev602, ev604] <;> rfl
      have em45 : kernelRun0_A.sl.r_45 c arg6 arg7 fh0 fh1 fs0 fs1 = m45 fh0 fh1 fh2 fh3 fh4 := by unfold kernelRun0_A.sl.r_45 m45; rw [em44] <;> rfl
      have em46 : kernelRun0_A.sl.r_46 c arg6 arg7 arg8 arg9 arg10 fh0 fh1 fh2 fh3 fh4 fs0 fs1 = m46 fh0 fh1 fh2 fh3 fh4 := by unfold kernelRun0_A.sl.r_46 m46; rw [em18, em39, em41, em42, em44] <;> rfl
      have em47 : kernelRun0_A.sl.r_47 c arg7 arg8 arg10 fh1 fh2 fh4 fs1 = m47 fh0 fh1 fh2 fh3 fh4 := by unfold kernelRun0_A.sl.r_47 m47; rw [em18, em40] <;> rfl
      have em48 : kernelRun0_A.sl.r_48 c arg7 arg8 arg9 arg10 fh1 fh2 fh3 fh4 fs1 = m48 fh0 fh1 fh2 fh3 fh4 := by unfold kernelRun0_A.sl.r_48 m48; rw [em18, em40, em41] <;> rfl
      have em49 : kernelRun0_A.sl.r_49 c arg6 arg7 arg8 arg9 arg10 fh0 fh1 fh2 fh3 fh4 fs0 fs1 = m49 fh0 fh1 fh2 fh3 fh4 := by unfold kernelRun0_A.sl.r_49 m49; rw [em38, em41, em43, em45, em46, em47, em48] <;> rfl
      have em50 : kernelRun0_A.sl.r_50 c arg7 fh1 fs1 = m50 fh0 fh1 fh2 fh3 fh4 := by unfold kernelRun0_A.sl.r_50 m50; rw [ev719] <;> rfl
      have em51 : kernelRun0_A.sl.r_51 c arg9 fh3 = m51 fh0 fh1 fh2 fh3 fh4 := by unfold kernelRun0_A.sl.r_51 m51; rw [em3] <;> rfl
      have em52 : kernelRun0_A.sl.r_52 c arg6 fh0 fs0 = m52 fh0 fh1 fh2 fh3 fh4 := by unfold kernelRun0_A.sl.r_52 m52; rw [ev717] <;> rfl
      have em53 : kernelRun0_A.sl.r_53 c arg7 fh1 fs1 = m53 fh0 fh1 fh2 fh3 fh4 := by unfold kernelRun0_A.sl.r_53 m53; rw [ev719] <;> rfl
      have em54 : kernelRun0_A.sl.r_54 c arg6 arg7 fh0 fh1 fs0 fs1 = m54 fh0 fh1 fh2 fh3 fh4 := by unfold kernelRun0_A.sl.r_54 m54; rw [ev717, ev719] <;> rfl
      have em55 : kernelRun0_A.sl.r_55 c arg6 arg8 arg10 fh0 fh2 fh4 fs0 = m55 fh0 fh1 fh2 fh3 fh4 := by unfold kernelRun0_A.sl.r_55 m55; rw [em18, ev717] <;> rfl
      have em56 : kernelRun0_A.sl.r_56 c arg6 arg8 arg9 arg10 fh0 fh2 fh3 fh4 fs0 = m56 fh0 fh1 fh2 fh3 fh4 := by unfold kernelRun0_A.sl.r_56 m56; rw [em3, em18, ev717] <;> rfl
      have em57 : kernelRun0_A.sl.r_57 c arg9 fh3 = m57 fh0 fh1 fh2 fh3 fh4 := by unfold kernelRun0_A.sl.r_57 m57; rw [em3] <;> rfl
      have em58 : kernelRun0_A.sl.r_58 c arg6 arg7 arg8 arg9 arg10 fh0 fh1 fh2 fh3 fh4 fs0 fs1 = m58 fh0 fh1 fh2 fh3 fh4 := by unfold kernelRun0_A.sl.r_58 m58; rw [em51, em52, em54, em55, em56, em57] <;> rfl
      have em59 : kernelRun0_A.sl.r_59 c arg7 arg8 arg9 arg10 fh1 fh2 fh3 fh4 fs1 = m59 fh0 fh1 fh2 fh3 fh4 := by unfold kernelRun0_A.sl.r_59 m59; rw [em18, em50, em51, em53] <;> rfl
      have em60 : kernelRun0_A.sl.r_60 = m60 fh0 fh1 fh2 fh3 fh4 := rfl
      rw [em49, em54, em58, em59, em60]
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hh0]; · iexact Hh0
    isplitl [Hh1]; · iexact Hh1
    isplitl [Hh2]; · iexact Hh2
    isplitl [Hh3]; · iexact Hh3
    isplitl [Hh4]; · iexact Hh4
    iexists _; iexact HW

end Cert.KernelIdeal.Run

end
-- ==== Proof.Launch.lean ====
/- The launch of the kernel's program: what its result and its arguments hold at the end. -/
module

public import proofs.«01_k».proof.Proof.Body
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The number the program ends with on core `c`. -/
def result (c : Dev nD) : Vec F S1x1 .f32 :=
  outVal (F := F) (V m c main_v0) (V m c main_v1) (V m c main_v2) (V m c main_v3) (V m c main_v4)

/-- The proof data of the one pipeline on core `c`: the arrays as the region finds them, the output's buffer at
    `result` after the body, the scratch and the five arrays left in place as the invariant. -/
def dats (_ : Fin 1) (c : Dev nD) : Dat τ (Elt F) Unit ℕ (Pipeline.UD sig nD τ) ℕ cfg0 c where
  A w := V m c (Pipeline.arrRef spec0 w)
  after w t := match w with
    | ⟨0, h⟩ => result m c
  Φ _ := Pipeline.ΦD osem0 spec0 H0 (V m) c
  q _ := fullShare
  owed _ := 0

/-- The proof data's arrays are what the region finds. -/
theorem A_eq (c : Dev nD) (w : Fin cfg0.W) : (dats m 0 c).A w = V m c (Pipeline.arrRef spec0 w) := by
  dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare (result m c))

/-- The body at any point leaves `result` in the output's buffer and everything else as it was. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨HS0, HS1, HS2, HS3, HS4⟩, Hg, ⟨Hq0, Hq1, Hq2, Hq3, Hq4, Hq5, Hq6, Hq7, Hq8, Hq9, Hq10⟩, ⟨Hh0, Hh1, Hh2, Hh3, Hh4⟩⟩, ⟨%W, -, HW⟩, ⟨%d0, H0⟩⟩
  iapply ((kernelRun0_A c _ _ _ _ _ _ _ _ _ _ _ _  (V m c main_v0) (V m c main_v1) (V m c main_v2) (V m c main_v3) (V m c main_v4)) W _)
  isplitl [H0]; · iexists _; iexact H0
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hh0]; · iexact Hh0
  isplitl [Hh1]; · iexact Hh1
  isplitl [Hh2]; · iexact Hh2
  isplitl [Hh3]; · iexact Hh3
  isplitl [Hh4]; · iexact Hh4
  isplitl [HW]; · iexact HW
  iintro ⟨H0, HS0, HS1, HS2, HS3, HS4, Hq0, Hq1, Hq2, Hq3, Hq4, Hq5, Hq6, Hq7, Hq8, Hq9, Hq10, Hh0, Hh1, Hh2, Hh3, Hh4, ⟨%W', HW'⟩⟩
  isplitl [HS0 HS1 HS2 HS3 HS4 Hg Hq0 Hq1 Hq2 Hq3 Hq4 Hq5 Hq6 Hq7 Hq8 Hq9 Hq10 Hh0 Hh1 Hh2 Hh3 Hh4]
  · isplitl [HS0 HS1 HS2 HS3 HS4]
    · isplitl [HS0]; · iexact HS0
      isplitl [HS1]; · iexact HS1
      isplitl [HS2]; · iexact HS2
      isplitl [HS3]; · iexact HS3
      iexact HS4
    isplitl [Hg]
    · iexact Hg
    isplitl [Hq0 Hq1 Hq2 Hq3 Hq4 Hq5 Hq6 Hq7 Hq8 Hq9 Hq10]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      iexact Hq10
    isplitl [Hh0]; · iexact Hh0
    isplitl [Hh1]; · iexact Hh1
    isplitl [Hh2]; · iexact Hh2
    isplitl [Hh3]; · iexact Hh3
    iexact Hh4
  isplitl [HW']
  · iexists W'; isplitr; · ipureintro; exact fun _ _ => Or.inl trivial
    iexact HW'
  iexact H0

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the pipeline's array ends as its proof data say, every other buffer as the region found it, and every
    counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The result's array, whole, read back from a buffer is the buffer. -/
theorem read_res (c : Dev nD) (f : Buf (Elt F) ((c : Thread nD τ).loc main_v5)) :
    ((cfg0.win 0).blk t0_0).view.read (Elt F) f = f :=
  Memref.read_access_unit_zero (Elt F) main_v5
    (show (fun a => ((cfg0.win 0).index t0_0) a * main_v5.ty.shape.size a) = fun _ => 0 from
      funext fun a => by fin_cases a <;> decide) (fun a => by fin_cases a <;> decide) f

/-- What the pipeline writes back at its one point is `result`. -/
theorem flushed_0 (c : Dev nD) : (dats m 0 c).flushed 0 t0_0 = result m c := by
  show (cfg0.win 0).cut _ ((dats m 0 c).after 0 t0_0) = _
  exact funext fun _ => rfl

/-- The result's array ends holding `result`. -/
theorem arrAt_0 (c : Dev nD) : (dats m 0 c).arrAt 0 cfg0.N = result m c := by
  have hw : ((cfg0.win 0).blk t0_0).view.read (Elt F) ((dats m 0 c).arrAt 0 cfg0.N) = (dats m 0 c).flushed 0 t0_0 := by
    rw [show cfg0.N = t0_0.val + 1 from rfl, (dats m 0 c).arrAt_succ (0 : Fin 1) t0_0, flush0_0, if_pos rfl]
    exact View.read_write_univ _ _
  rw [flushed_0] at hw
  exact (read_res c _).symm.trans hw

/-- The program ends with `result` in its result array and its arguments unchanged. -/
theorem value : θ_run defs (onTc (τ := τ) (main (F := F))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 0).trans (arrAt_0 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩)
    (run_main_quiescent m ρ)

/-- The program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun _ h c => (h c).2) (value m ρ)) ((θ_run defs _ _).mono (fun _ h => h.2) (run_main_quiescent m ρ))

end Cert.KernelIdeal.Run

end
-- ==== Proof.KernelBody.lean ====
/- The kernel body run at any float values: it ends with its arguments as they were. -/
module

public import proofs.«01_k».proof.Proof.KernelSetup

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in set_option sl_exec.dmaWindow true in set_option sl_exec.dmaWindowSet true in
/-- The body's triple: on whole staging memrefs — the inputs' at their contents,
    the FORGOTTEN outputs' (0) at anything, handed back at some contents nothing names —
    the body runs to the continuation holding the inputs' as they were, the scratch at some contents: the printed functions are their skeletons (`Gen.*_eq_skeleton`),
    which `sl_exec` runs (Lib/Exec.lean). -/
theorem kernelRun0_A (c : Dev nD) (arg5 : Memref sig .tc .vmem S1x1 .f32) (harg5 : arg5.IsWhole) (arg6 : Memref sig .tc .vmem S4x256x1024 .f32) (harg6 : arg6.IsWhole) (arg7 : Memref sig .tc .vmem S4x256x1024 .f32) (harg7 : arg7.IsWhole) (arg8 : Memref sig .tc .vmem S4x256x1024 .f32) (harg8 : arg8.IsWhole) (arg9 : Memref sig .tc .vmem S4x4x1024 .f32) (harg9 : arg9.IsWhole) (arg10 : Memref sig .tc .vmem S4x4x1024 .f32) (harg10 : arg10.IsWhole)
     (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) :
      ∀ (W : Waits sig Unit) (K : PUnit → sProp 𝕄),
        iprop((∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ hbPt0 c hbM0_2 fh2 ∗ hbPt0 c hbM0_3 fh3 ∗ hbPt0 c hbM0_4 fh4 ∗ owes (c : Thread nD τ) 0 W
            ∗ (iprop((∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ hbPt0 c hbM0_0 fh0 ∗ hbPt0 c hbM0_1 fh1 ∗ hbPt0 c hbM0_2 fh2 ∗ hbPt0 c hbM0_3 fh3 ∗ hbPt0 c hbM0_4 fh4 ∗ (∃ W', owes (c : Thread nD τ) 0 W')) -∗ K ⟨⟩))
          ⊢ wp frame (wpE (defs₀ (F := F)) Variants.none c none) Set.univ (cc0__loss_kernel (Memref.whole main_v0) (Memref.isWhole_whole _) (Memref.whole main_v1) (Memref.isWhole_whole _) (Memref.whole main_v2) (Memref.isWhole_whole _) (Memref.whole main_v3) (Memref.isWhole_whole _) (Memref.whole main_v4) (Memref.isWhole_whole _) arg5 harg5 arg6 harg6 arg7 harg7 arg8 harg8 arg9 harg9 arg10 harg10 cc0_scratch5 cc0_scratch6 cc0_scratch7 cc0_scratch8 cc0_scratch9) K := by
    intro W K
    simp only [cc0__loss_kernel_eq_skeleton]; unfold cc0__loss_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%d0, %f0, -, H0⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hq2, Hq3, Hq4, Hq5, Hq6, Hq7, Hq8, Hq9, Hq10, Hh0, Hh1, Hh2, Hh3, Hh4, HW, Hk⟩
    sl_exec
    sl_step
    iapply Hk
    isplitl [H0]
    · iexists _, _; isplitr; swap; · iexact H0
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hh0]; · iexact Hh0
    isplitl [Hh1]; · iexact Hh1
    isplitl [Hh2]; · iexact Hh2
    isplitl [Hh3]; · iexact Hh3
    isplitl [Hh4]; · iexact Hh4
    iexists _; iexact HW

end Cert.Kernel.Run

end
-- ==== Proof.KernelLaunch.lean ====
/- The launch of the printed kernel: it ends with its arguments unchanged and its counters at zero. -/
module

public import proofs.«01_k».proof.Proof.KernelBody
public import Idealize.ShloMosaic.Lib.Claim

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The output windows this certificate FORGETS (0): nothing reads what the kernel leaves in them, so nothing
    of it is named (Lib/Pipeline/Dat.lean `Dat.toRForget`). -/
def forgets0 : Fin 1 → Bool := fun w => w.val == 0

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, h⟩ => Pipeline.Dat.unnamed (cfg := cfg0) ⟨0, h⟩ t
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare d))

/-- and what it returns. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare d))

/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨HS0, HS1, HS2, HS3, HS4⟩, Hg, ⟨Hq0, Hq1, Hq2, Hq3, Hq4, Hq5, Hq6, Hq7, Hq8, Hq9, Hq10⟩, ⟨Hh0, Hh1, Hh2, Hh3, Hh4⟩⟩, ⟨%W, -, HW⟩, ⟨%d0, H0⟩⟩
  iapply ((kernelRun0_A c _ _ _ _ _ _ _ _ _ _ _ _  (V m c main_v0) (V m c main_v1) (V m c main_v2) (V m c main_v3) (V m c main_v4)) W _)
  isplitl [H0]; · iexists _; iexact H0
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hh0]; · iexact Hh0
  isplitl [Hh1]; · iexact Hh1
  isplitl [Hh2]; · iexact Hh2
  isplitl [Hh3]; · iexact Hh3
  isplitl [Hh4]; · iexact Hh4
  isplitl [HW]; · iexact HW
  iintro ⟨H0, HS0, HS1, HS2, HS3, HS4, Hq0, Hq1, Hq2, Hq3, Hq4, Hq5, Hq6, Hq7, Hq8, Hq9, Hq10, Hh0, Hh1, Hh2, Hh3, Hh4, ⟨%W', HW'⟩⟩
  isplitl [HS0 HS1 HS2 HS3 HS4 Hg Hq0 Hq1 Hq2 Hq3 Hq4 Hq5 Hq6 Hq7 Hq8 Hq9 Hq10 Hh0 Hh1 Hh2 Hh3 Hh4]
  · isplitl [HS0 HS1 HS2 HS3 HS4]
    · isplitl [HS0]; · iexact HS0
      isplitl [HS1]; · iexact HS1
      isplitl [HS2]; · iexact HS2
      isplitl [HS3]; · iexact HS3
      iexact HS4
    isplitl [Hg]
    · iexact Hg
    isplitl [Hq0 Hq1 Hq2 Hq3 Hq4 Hq5 Hq6 Hq7 Hq8 Hq9 Hq10]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      iexact Hq10
    isplitl [Hh0]; · iexact Hh0
    isplitl [Hh1]; · iexact Hh1
    isplitl [Hh2]; · iexact Hh2
    isplitl [Hh3]; · iexact Hh3
    iexact Hh4
  isplitl [HW']
  · iexists W'; isplitr; · ipureintro; exact fun _ _ => Or.inl trivial
    iexact HW'
  iexact H0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_dma_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (window 0) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- What the run leaves is the arguments, unchanged. -/
theorem args_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  args_of m ρ (fun c => (dats m 0 c).toRForget forgets0) (A_eq m) (run_main m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Run

end
-- ==== Proof.RefModel.lean ====
/- The reference's program as a chain of pure array expressions in its arguments. -/
module

public import proofs.«01_k».proof.Proof.Gen.ReferenceIdeal

@[expose] public section

noncomputable section

namespace Cert.ReferenceIdeal.Run

open Idealize.ShloMosaic Idealize.ShloMosaic.TcCoe
open Cert.ReferenceIdeal
open Cert.ReferenceIdeal.Facts₀ Cert.ReferenceIdeal.Facts

variable {F : FTy → Type} [FloatOps F]

def r_v0 (A0 : Vec F S4x256x32x32 .f32) : Vec F S4x32x32x256 .f32 :=
  ((transpose S4x32x32x256 [0, 2, 3, 1] · transposes_S4x256x32x32_S4x32x32x256_0_2_3_1)) A0

def r_v1 (A0 : Vec F S4x256x32x32 .f32) : Vec F S4096x256 .f32 :=
  shapeCast S4096x256 (r_v0 A0) shapeCasts_S4x32x32x256_S4096x256

def r_call0_v0 (A0 : Vec F S4x256x32x32 .f32) : Vec F S4096x256 .f32 :=
  mulf (r_v1 A0) (r_v1 A0)

def r_call0_cst : Vec F S_ .f32 :=
  (constant S_ .f32 0x00000000#32)

def r_call0_v1 (A0 : Vec F S4x256x32x32 .f32) : Vec F S4096 .f32 :=
  (fun x v => Host.reduceAdd x v reducesTo_S4096x256_S4096_d1 h_S_) (r_call0_v0 A0) (r_call0_cst (F := F))

def r_call0_v2 (A0 : Vec F S4x256x32x32 .f32) : Vec F S4096x1 .f32 :=
  (broadcastInDim S4096x1 ![0] bcast_S4096_S4096x1_0) (r_call0_v1 A0)

def r_v2 (A0 : Vec F S4x256x32x32 .f32) : Vec F S4096x1 .f32 :=
  Host.sqrt (r_call0_v2 A0)

def r_cst : Vec F S_ .f32 :=
  (constant S_ .f32 0x2B8CBCCC#32)

def r_v3 : Vec F S4096x1 .f32 :=
  (broadcastInDim S4096x1 ![] bcast_S_S4096x1) (r_cst (F := F))

def r_v4 (A0 : Vec F S4x256x32x32 .f32) : Vec F S4096x1 .f32 :=
  (maximumf) (r_v2 A0) (r_v3 (F := F))

def r_v5 (A0 : Vec F S4x256x32x32 .f32) : Vec F S4096x256 .f32 :=
  (broadcastInDim S4096x256 ![0, 1] bcast_S4096x1_S4096x256_0_1) (r_v4 A0)

def r_v6 (A0 : Vec F S4x256x32x32 .f32) : Vec F S4096x256 .f32 :=
  (Host.divf) (r_v1 A0) (r_v5 A0)

def r_v7 (A1 : Vec F S4x256x32x32 .f32) : Vec F S4x32x32x256 .f32 :=
  ((transpose S4x32x32x256 [0, 2, 3, 1] · transposes_S4x256x32x32_S4x32x32x256_0_2_3_1)) A1

def r_v8 (A1 : Vec F S4x256x32x32 .f32) : Vec F S4096x256 .f32 :=
  shapeCast S4096x256 (r_v7 A1) shapeCasts_S4x32x32x256_S4096x256

def r_call1_v0 (A1 : Vec F S4x256x32x32 .f32) : Vec F S4096x256 .f32 :=
  mulf (r_v8 A1) (r_v8 A1)

def r_call1_cst : Vec F S_ .f32 :=
  (constant S_ .f32 0x00000000#32)

def r_call1_v1 (A1 : Vec F S4x256x32x32 .f32) : Vec F S4096 .f32 :=
  (fun x v => Host.reduceAdd x v reducesTo_S4096x256_S4096_d1 h_S_) (r_call1_v0 A1) (r_call1_cst (F := F))

def r_call1_v2 (A1 : Vec F S4x256x32x32 .f32) : Vec F S4096x1 .f32 :=
  (broadcastInDim S4096x1 ![0] bcast_S4096_S4096x1_0) (r_call1_v1 A1)

def r_v9 (A1 : Vec F S4x256x32x32 .f32) : Vec F S4096x1 .f32 :=
  Host.sqrt (r_call1_v2 A1)

def r_cst_0 : Vec F S_ .f32 :=
  (constant S_ .f32 0x2B8CBCCC#32)

def r_v10 : Vec F S4096x1 .f32 :=
  (broadcastInDim S4096x1 ![] bcast_S_S4096x1) (r_cst_0 (F := F))

def r_v11 (A1 : Vec F S4x256x32x32 .f32) : Vec F S4096x1 .f32 :=
  (maximumf) (r_v9 A1) (r_v10 (F := F))

def r_v12 (A1 : Vec F S4x256x32x32 .f32) : Vec F S4096x256 .f32 :=
  (broadcastInDim S4096x256 ![0, 1] bcast_S4096x1_S4096x256_0_1) (r_v11 A1)

def r_v13 (A1 : Vec F S4x256x32x32 .f32) : Vec F S4096x256 .f32 :=
  (Host.divf) (r_v8 A1) (r_v12 A1)

def r_v14 (A2 : Vec F S4x256x32x32 .f32) : Vec F S4x32x32x256 .f32 :=
  ((transpose S4x32x32x256 [0, 2, 3, 1] · transposes_S4x256x32x32_S4x32x32x256_0_2_3_1)) A2

def r_v15 (A2 : Vec F S4x256x32x32 .f32) : Vec F S4096x256 .f32 :=
  shapeCast S4096x256 (r_v14 A2) shapeCasts_S4x32x32x256_S4096x256

def r_call2_v0 (A2 : Vec F S4x256x32x32 .f32) : Vec F S4096x256 .f32 :=
  mulf (r_v15 A2) (r_v15 A2)

def r_call2_cst : Vec F S_ .f32 :=
  (constant S_ .f32 0x00000000#32)

def r_call2_v1 (A2 : Vec F S4x256x32x32 .f32) : Vec F S4096 .f32 :=
  (fun x v => Host.reduceAdd x v reducesTo_S4096x256_S4096_d1 h_S_) (r_call2_v0 A2) (r_call2_cst (F := F))

def r_call2_v2 (A2 : Vec F S4x256x32x32 .f32) : Vec F S4096x1 .f32 :=
  (broadcastInDim S4096x1 ![0] bcast_S4096_S4096x1_0) (r_call2_v1 A2)

def r_v16 (A2 : Vec F S4x256x32x32 .f32) : Vec F S4096x1 .f32 :=
  Host.sqrt (r_call2_v2 A2)

def r_cst_1 : Vec F S_ .f32 :=
  (constant S_ .f32 0x2B8CBCCC#32)

def r_v17 : Vec F S4096x1 .f32 :=
  (broadcastInDim S4096x1 ![] bcast_S_S4096x1) (r_cst_1 (F := F))

def r_v18 (A2 : Vec F S4x256x32x32 .f32) : Vec F S4096x1 .f32 :=
  (maximumf) (r_v16 A2) (r_v17 (F := F))

def r_v19 (A2 : Vec F S4x256x32x32 .f32) : Vec F S4096x256 .f32 :=
  (broadcastInDim S4096x256 ![0, 1] bcast_S4096x1_S4096x256_0_1) (r_v18 A2)

def r_v20 (A2 : Vec F S4x256x32x32 .f32) : Vec F S4096x256 .f32 :=
  (Host.divf) (r_v15 A2) (r_v19 A2)

def r_cst_2 : Vec F S_ .f32 :=
  (constant S_ .f32 0xFF800000#32)

def r_v21 (A3 : Vec F S4x4x32x32 .f32) : Vec F S4x32x32 .f32 :=
  ((fun x v => Host.reduce FloatOps.maximumf x v reducesTo_S4x4x32x32_S4x32x32_d1 h_S_)) A3 (r_cst_2 (F := F))

def r_cst_3 : Vec F S_ .f32 :=
  (constant S_ .f32 0xFF800000#32)

def r_v22 : Vec F S4x32x32 .f32 :=
  (broadcastInDim S4x32x32 ![] bcast_S_S4x32x32) (r_cst_3 (F := F))

def r_v23 (A3 : Vec F S4x4x32x32 .f32) : Vec F S4x32x32 .f32 :=
  (maximumf) (r_v22 (F := F)) (r_v21 A3)

def r_v24 (A3 : Vec F S4x4x32x32 .f32) : Vec F S4x1x32x32 .f32 :=
  (broadcastInDim S4x1x32x32 ![0, 2, 3] bcast_S4x32x32_S4x1x32x32_0_2_3) (r_v23 A3)

def r_v25 (A3 : Vec F S4x4x32x32 .f32) : Vec F S4x4x32x32 .f32 :=
  (broadcastInDim S4x4x32x32 ![0, 1, 2, 3] bcast_S4x1x32x32_S4x4x32x32_0_1_2_3) (r_v24 A3)

def r_v26 (A3 : Vec F S4x4x32x32 .f32) : Vec F S4x4x32x32 .f32 :=
  (subf) A3 (r_v25 A3)

def r_v27 (A3 : Vec F S4x4x32x32 .f32) : Vec F S4x4x32x32 .f32 :=
  (Host.exp) (r_v26 A3)

def r_cst_4 : Vec F S_ .f32 :=
  (constant S_ .f32 0x00000000#32)

def r_v28 (A3 : Vec F S4x4x32x32 .f32) : Vec F S4x32x32 .f32 :=
  ((fun x v => Host.reduceAdd x v reducesTo_S4x4x32x32_S4x32x32_d1 h_S_)) (r_v27 A3) (r_cst_4 (F := F))

def r_v29 (A3 : Vec F S4x4x32x32 .f32) : Vec F S4x1x32x32 .f32 :=
  (broadcastInDim S4x1x32x32 ![0, 2, 3] bcast_S4x32x32_S4x1x32x32_0_2_3) (r_v28 A3)

def r_v30 (A3 : Vec F S4x4x32x32 .f32) : Vec F S4x4x32x32 .f32 :=
  (broadcastInDim S4x4x32x32 ![0, 1, 2, 3] bcast_S4x1x32x32_S4x4x32x32_0_1_2_3) (r_v29 A3)

def r_v31 (A3 : Vec F S4x4x32x32 .f32) : Vec F S4x4x32x32 .f32 :=
  (Host.divf) (r_v27 A3) (r_v30 A3)

def r_cst_5 : Vec F S_ .f32 :=
  (constant S_ .f32 0xFF800000#32)

def r_v32 (A4 : Vec F S4x4x32x32 .f32) : Vec F S4x32x32 .f32 :=
  ((fun x v => Host.reduce FloatOps.maximumf x v reducesTo_S4x4x32x32_S4x32x32_d1 h_S_)) A4 (r_cst_5 (F := F))

def r_cst_6 : Vec F S_ .f32 :=
  (constant S_ .f32 0xFF800000#32)

def r_v33 : Vec F S4x32x32 .f32 :=
  (broadcastInDim S4x32x32 ![] bcast_S_S4x32x32) (r_cst_6 (F := F))

def r_v34 (A4 : Vec F S4x4x32x32 .f32) : Vec F S4x32x32 .f32 :=
  (maximumf) (r_v33 (F := F)) (r_v32 A4)

def r_v35 (A4 : Vec F S4x4x32x32 .f32) : Vec F S4x1x32x32 .f32 :=
  (broadcastInDim S4x1x32x32 ![0, 2, 3] bcast_S4x32x32_S4x1x32x32_0_2_3) (r_v34 A4)

def r_v36 (A4 : Vec F S4x4x32x32 .f32) : Vec F S4x4x32x32 .f32 :=
  (broadcastInDim S4x4x32x32 ![0, 1, 2, 3] bcast_S4x1x32x32_S4x4x32x32_0_1_2_3) (r_v35 A4)

def r_v37 (A4 : Vec F S4x4x32x32 .f32) : Vec F S4x4x32x32 .f32 :=
  (subf) A4 (r_v36 A4)

def r_v38 (A4 : Vec F S4x4x32x32 .f32) : Vec F S4x4x32x32 .f32 :=
  (Host.exp) (r_v37 A4)

def r_cst_7 : Vec F S_ .f32 :=
  (constant S_ .f32 0x00000000#32)

def r_v39 (A4 : Vec F S4x4x32x32 .f32) : Vec F S4x32x32 .f32 :=
  ((fun x v => Host.reduceAdd x v reducesTo_S4x4x32x32_S4x32x32_d1 h_S_)) (r_v38 A4) (r_cst_7 (F := F))

def r_v40 (A4 : Vec F S4x4x32x32 .f32) : Vec F S4x1x32x32 .f32 :=
  (broadcastInDim S4x1x32x32 ![0, 2, 3] bcast_S4x32x32_S4x1x32x32_0_2_3) (r_v39 A4)

def r_v41 (A4 : Vec F S4x4x32x32 .f32) : Vec F S4x4x32x32 .f32 :=
  (broadcastInDim S4x4x32x32 ![0, 1, 2, 3] bcast_S4x1x32x32_S4x4x32x32_0_1_2_3) (r_v40 A4)

def r_v42 (A4 : Vec F S4x4x32x32 .f32) : Vec F S4x4x32x32 .f32 :=
  (Host.divf) (r_v38 A4) (r_v41 A4)

def r_call3_v0 : Vec F S4x4x32x32 .i32 :=
  (iotaInDim S4x4x32x32 32 1)

def r_call3_cst : Vec F S_ .f32 :=
  (constant S_ .f32 0xFF800000#32)

def r_call3_c : Vec F S_ .i32 :=
  (constantI S_ 32 0#32)

def r_call3_v1_0 (A3 : Vec F S4x4x32x32 .f32) : Vec F S4x32x32 .f32 :=
  (fun x y u v j => (Host.argReduce reducer_argmax_f32_i32 x y u v reducesTo_S4x4x32x32_S4x32x32_d1 h_S_ j).1) (r_v31 A3) (r_call3_v0 (F := F)) (r_call3_cst (F := F)) (r_call3_c (F := F))

def r_v43 (A3 : Vec F S4x4x32x32 .f32) : Vec F S4x32x32 .i32 :=
  (fun x y u v j => (Host.argReduce reducer_argmax_f32_i32 x y u v reducesTo_S4x4x32x32_S4x32x32_d1 h_S_ j).2) (r_v31 A3) (r_call3_v0 (F := F)) (r_call3_cst (F := F)) (r_call3_c (F := F))

def r_call4_v0 : Vec F S4x4x32x32 .i32 :=
  (iotaInDim S4x4x32x32 32 1)

def r_call4_cst : Vec F S_ .f32 :=
  (constant S_ .f32 0xFF800000#32)

def r_call4_c : Vec F S_ .i32 :=
  (constantI S_ 32 0#32)

def r_call4_v1_0 (A4 : Vec F S4x4x32x32 .f32) : Vec F S4x32x32 .f32 :=
  (fun x y u v j => (Host.argReduce reducer_argmax_f32_i32 x y u v reducesTo_S4x4x32x32_S4x32x32_d1 h_S_ j).1) (r_v42 A4) (r_call4_v0 (F := F)) (r_call4_cst (F := F)) (r_call4_c (F := F))

def r_v44 (A4 : Vec F S4x4x32x32 .f32) : Vec F S4x32x32 .i32 :=
  (fun x y u v j => (Host.argReduce reducer_argmax_f32_i32 x y u v reducesTo_S4x4x32x32_S4x32x32_d1 h_S_ j).2) (r_v42 A4) (r_call4_v0 (F := F)) (r_call4_cst (F := F)) (r_call4_c (F := F))

def r_cst_8 : Vec F S_ .f32 :=
  (constant S_ .f32 0xFF800000#32)

def r_v45 (A4 : Vec F S4x4x32x32 .f32) : Vec F S4x32x32 .f32 :=
  ((fun x v => Host.reduce FloatOps.maximumf x v reducesTo_S4x4x32x32_S4x32x32_d1 h_S_)) (r_v42 A4) (r_cst_8 (F := F))

def r_v46 (A3 : Vec F S4x4x32x32 .f32) : Vec F S4096 .i32 :=
  shapeCast S4096 (r_v43 A3) shapeCasts_S4x32x32_S4096

def r_v47 (A4 : Vec F S4x4x32x32 .f32) : Vec F S4096 .i32 :=
  shapeCast S4096 (r_v44 A4) shapeCasts_S4x32x32_S4096

def r_v48 (A4 : Vec F S4x4x32x32 .f32) : Vec F S4096 .f32 :=
  shapeCast S4096 (r_v45 A4) shapeCasts_S4x32x32_S4096

def r_v49 (A0 : Vec F S4x256x32x32 .f32) (A1 : Vec F S4x256x32x32 .f32) : Vec F S4096x256 .f32 :=
  (mulf) (r_v6 A0) (r_v13 A1)

def r_cst_9 : Vec F S_ .f32 :=
  (constant S_ .f32 0x00000000#32)

def r_v50 (A0 : Vec F S4x256x32x32 .f32) (A1 : Vec F S4x256x32x32 .f32) : Vec F S4096 .f32 :=
  ((fun x v => Host.reduceAdd x v reducesTo_S4096x256_S4096_d1 h_S_)) (r_v49 A0 A1) (r_cst_9 (F := F))

def r_call5_v0 (A0 : Vec F S4x256x32x32 .f32) : Vec F S4096x256 .f32 :=
  mulf (r_v6 A0) (r_v6 A0)

def r_call5_cst : Vec F S_ .f32 :=
  (constant S_ .f32 0x00000000#32)

def r_call5_v1 (A0 : Vec F S4x256x32x32 .f32) : Vec F S4096 .f32 :=
  (fun x v => Host.reduceAdd x v reducesTo_S4096x256_S4096_d1 h_S_) (r_call5_v0 A0) (r_call5_cst (F := F))

def r_v51 (A0 : Vec F S4x256x32x32 .f32) : Vec F S4096 .f32 :=
  Host.sqrt (r_call5_v1 A0)

def r_call6_v0 (A1 : Vec F S4x256x32x32 .f32) : Vec F S4096x256 .f32 :=
  mulf (r_v13 A1) (r_v13 A1)

def r_call6_cst : Vec F S_ .f32 :=
  (constant S_ .f32 0x00000000#32)

def r_call6_v1 (A1 : Vec F S4x256x32x32 .f32) : Vec F S4096 .f32 :=
  (fun x v => Host.reduceAdd x v reducesTo_S4096x256_S4096_d1 h_S_) (r_call6_v0 A1) (r_call6_cst (F := F))

def r_v52 (A1 : Vec F S4x256x32x32 .f32) : Vec F S4096 .f32 :=
  Host.sqrt (r_call6_v1 A1)

def r_v53 (A0 : Vec F S4x256x32x32 .f32) (A1 : Vec F S4x256x32x32 .f32) : Vec F S4096 .f32 :=
  (mulf) (r_v51 A0) (r_v52 A1)

def r_cst_10 : Vec F S_ .f32 :=
  (constant S_ .f32 0x322BCC77#32)

def r_v54 : Vec F S4096 .f32 :=
  (broadcastInDim S4096 ![] bcast_S_S4096) (r_cst_10 (F := F))

def r_v55 (A0 : Vec F S4x256x32x32 .f32) (A1 : Vec F S4x256x32x32 .f32) : Vec F S4096 .f32 :=
  (maximumf) (r_v53 A0 A1) (r_v54 (F := F))

def r_v56 (A0 : Vec F S4x256x32x32 .f32) (A1 : Vec F S4x256x32x32 .f32) : Vec F S4096 .f32 :=
  (Host.divf) (r_v50 A0 A1) (r_v55 A0 A1)

def r_v57 (A3 : Vec F S4x4x32x32 .f32) : Vec F S1x4096 .i32 :=
  (broadcastInDim S1x4096 ![1] bcast_S4096_S1x4096_1) (r_v46 A3)

def r_v58 (A4 : Vec F S4x4x32x32 .f32) : Vec F S4096x1 .i32 :=
  (broadcastInDim S4096x1 ![0] bcast_S4096_S4096x1_0) (r_v47 A4)

def r_v59 (A3 : Vec F S4x4x32x32 .f32) : Vec F S4096x4096 .i32 :=
  (broadcastInDim S4096x4096 ![0, 1] bcast_S1x4096_S4096x4096_0_1) (r_v57 A3)

def r_v60 (A4 : Vec F S4x4x32x32 .f32) : Vec F S4096x4096 .i32 :=
  (broadcastInDim S4096x4096 ![0, 1] bcast_S4096x1_S4096x4096_0_1) (r_v58 A4)

def r_v61 (A3 : Vec F S4x4x32x32 .f32) (A4 : Vec F S4x4x32x32 .f32) : Vec F S4096x4096 .i1 :=
  (cmpi .ne) (r_v59 A3) (r_v60 A4)

def r_v62 (A3 : Vec F S4x4x32x32 .f32) (A4 : Vec F S4x4x32x32 .f32) : Vec F S4096x4096 .f32 :=
  (uitofp .f32) (r_v61 A3 A4)

def r_v63 (A4 : Vec F S4x4x32x32 .f32) : Vec F S4096x1 .f32 :=
  (broadcastInDim S4096x1 ![0] bcast_S4096_S4096x1_0) (r_v48 A4)

def r_v64 (A4 : Vec F S4x4x32x32 .f32) : Vec F S4096x4096 .f32 :=
  (broadcastInDim S4096x4096 ![0, 1] bcast_S4096x1_S4096x4096_0_1) (r_v63 A4)

def r_v65 (A3 : Vec F S4x4x32x32 .f32) (A4 : Vec F S4x4x32x32 .f32) : Vec F S4096x4096 .f32 :=
  (mulf) (r_v62 A3 A4) (r_v64 A4)

def r_v66 (A3 : Vec F S4x4x32x32 .f32) (A4 : Vec F S4x4x32x32 .f32) : Vec F S4096x4096 .f32 :=
  ((transpose S4096x4096 [1, 0] · transposes_S4096x4096_S4096x4096_1_0)) (r_v65 A3 A4)

def r_values (A3 : Vec F S4x4x32x32 .f32) (A4 : Vec F S4x4x32x32 .f32) : Vec F S4096x50 .f32 :=
  ((fun x => (Host.topK S4096x50 1 (FloatOps.cmpfTotal .gt) x sliceFits_S4096x4096_S4096x50).1)) (r_v66 A3 A4)

def r_indices (A3 : Vec F S4x4x32x32 .f32) (A4 : Vec F S4x4x32x32 .f32) : Vec F S4096x50 .i32 :=
  ((fun x => (Host.topK S4096x50 1 (FloatOps.cmpfTotal .gt) x sliceFits_S4096x4096_S4096x50).2)) (r_v66 A3 A4)

def r_v67 (A3 : Vec F S4x4x32x32 .f32) (A4 : Vec F S4x4x32x32 .f32) : Vec F S50x4096 .i32 :=
  ((transpose S50x4096 [1, 0] · transposes_S4096x50_S50x4096_1_0)) (r_indices A3 A4)

def r_c : Vec F S_ .i32 :=
  (constantI S_ 32 0#32)

def r_v68 : Vec F S50x4096 .i32 :=
  (broadcastInDim S50x4096 ![] bcast_S_S50x4096) (r_c (F := F))

def r_v69 (A3 : Vec F S4x4x32x32 .f32) (A4 : Vec F S4x4x32x32 .f32) : Vec F S50x4096 .i1 :=
  (cmpi .slt) (r_v67 A3 A4) (r_v68 (F := F))

def r_c_11 : Vec F S_ .i32 :=
  (constantI S_ 32 4096#32)

def r_v70 : Vec F S50x4096 .i32 :=
  (broadcastInDim S50x4096 ![] bcast_S_S50x4096) (r_c_11 (F := F))

def r_v71 (A3 : Vec F S4x4x32x32 .f32) (A4 : Vec F S4x4x32x32 .f32) : Vec F S50x4096 .i32 :=
  (addi) (r_v67 A3 A4) (r_v70 (F := F))

def r_v72 (A3 : Vec F S4x4x32x32 .f32) (A4 : Vec F S4x4x32x32 .f32) : Vec F S50x4096 .i32 :=
  (select) (r_v69 A3 A4) (r_v71 A3 A4) (r_v67 A3 A4)

def r_v73 (A3 : Vec F S4x4x32x32 .f32) (A4 : Vec F S4x4x32x32 .f32) : Vec F S50x4096x1 .i32 :=
  (broadcastInDim S50x4096x1 ![0, 1] bcast_S50x4096_S50x4096x1_0_1) (r_v72 A3 A4)

def r_v74 (A2 : Vec F S4x256x32x32 .f32) (A3 : Vec F S4x4x32x32 .f32) (A4 : Vec F S4x4x32x32 .f32) : Vec F S50x4096x256 .f32 :=
  ((fun x i => Host.gather gather_S4096x256_S50x4096x1_S50x4096x256_2_0_n_n_0_2_1256 x i)) (r_v20 A2) (r_v73 A3 A4)

def r_v75 (A0 : Vec F S4x256x32x32 .f32) : Vec F S1x4096x256 .f32 :=
  (broadcastInDim S1x4096x256 ![1, 2] bcast_S4096x256_S1x4096x256_1_2) (r_v6 A0)

def r_v76 (A0 : Vec F S4x256x32x32 .f32) : Vec F S50x4096x256 .f32 :=
  (broadcastInDim S50x4096x256 ![0, 1, 2] bcast_S1x4096x256_S50x4096x256_0_1_2) (r_v75 A0)

def r_v77 (A0 : Vec F S4x256x32x32 .f32) (A2 : Vec F S4x256x32x32 .f32) (A3 : Vec F S4x4x32x32 .f32) (A4 : Vec F S4x4x32x32 .f32) : Vec F S50x4096x256 .f32 :=
  (mulf) (r_v76 A0) (r_v74 A2 A3 A4)

def r_cst_12 : Vec F S_ .f32 :=
  (constant S_ .f32 0x00000000#32)

def r_v78 (A0 : Vec F S4x256x32x32 .f32) (A2 : Vec F S4x256x32x32 .f32) (A3 : Vec F S4x4x32x32 .f32) (A4 : Vec F S4x4x32x32 .f32) : Vec F S50x4096 .f32 :=
  ((fun x v => Host.reduceAdd x v reducesTo_S50x4096x256_S50x4096_d2 h_S_)) (r_v77 A0 A2 A3 A4) (r_cst_12 (F := F))

def r_call7_v0 (A0 : Vec F S4x256x32x32 .f32) : Vec F S50x4096x256 .f32 :=
  mulf (r_v76 A0) (r_v76 A0)

def r_call7_cst : Vec F S_ .f32 :=
  (constant S_ .f32 0x00000000#32)

def r_call7_v1 (A0 : Vec F S4x256x32x32 .f32) : Vec F S50x4096 .f32 :=
  (fun x v => Host.reduceAdd x v reducesTo_S50x4096x256_S50x4096_d2 h_S_) (r_call7_v0 A0) (r_call7_cst (F := F))

def r_v79 (A0 : Vec F S4x256x32x32 .f32) : Vec F S50x4096 .f32 :=
  Host.sqrt (r_call7_v1 A0)

def r_call8_v0 (A2 : Vec F S4x256x32x32 .f32) (A3 : Vec F S4x4x32x32 .f32) (A4 : Vec F S4x4x32x32 .f32) : Vec F S50x4096x256 .f32 :=
  mulf (r_v74 A2 A3 A4) (r_v74 A2 A3 A4)

def r_call8_cst : Vec F S_ .f32 :=
  (constant S_ .f32 0x00000000#32)

def r_call8_v1 (A2 : Vec F S4x256x32x32 .f32) (A3 : Vec F S4x4x32x32 .f32) (A4 : Vec F S4x4x32x32 .f32) : Vec F S50x4096 .f32 :=
  (fun x v => Host.reduceAdd x v reducesTo_S50x4096x256_S50x4096_d2 h_S_) (r_call8_v0 A2 A3 A4) (r_call8_cst (F := F))

def r_v80 (A2 : Vec F S4x256x32x32 .f32) (A3 : Vec F S4x4x32x32 .f32) (A4 : Vec F S4x4x32x32 .f32) : Vec F S50x4096 .f32 :=
  Host.sqrt (r_call8_v1 A2 A3 A4)

def r_v81 (A0 : Vec F S4x256x32x32 .f32) (A2 : Vec F S4x256x32x32 .f32) (A3 : Vec F S4x4x32x32 .f32) (A4 : Vec F S4x4x32x32 .f32) : Vec F S50x4096 .f32 :=
  (mulf) (r_v79 A0) (r_v80 A2 A3 A4)

def r_cst_13 : Vec F S_ .f32 :=
  (constant S_ .f32 0x322BCC77#32)

def r_v82 : Vec F S50x4096 .f32 :=
  (broadcastInDim S50x4096 ![] bcast_S_S50x4096) (r_cst_13 (F := F))

def r_v83 (A0 : Vec F S4x256x32x32 .f32) (A2 : Vec F S4x256x32x32 .f32) (A3 : Vec F S4x4x32x32 .f32) (A4 : Vec F S4x4x32x32 .f32) : Vec F S50x4096 .f32 :=
  (maximumf) (r_v81 A0 A2 A3 A4) (r_v82 (F := F))

def r_v84 (A0 : Vec F S4x256x32x32 .f32) (A2 : Vec F S4x256x32x32 .f32) (A3 : Vec F S4x4x32x32 .f32) (A4 : Vec F S4x4x32x32 .f32) : Vec F S50x4096 .f32 :=
  (Host.divf) (r_v78 A0 A2 A3 A4) (r_v83 A0 A2 A3 A4)

def r_cst_14 : Vec F S_ .f32 :=
  (constant S_ .f32 0x3D8F5C29#32)

def r_v85 : Vec F S4096 .f32 :=
  (broadcastInDim S4096 ![] bcast_S_S4096) (r_cst_14 (F := F))

def r_v86 (A0 : Vec F S4x256x32x32 .f32) (A1 : Vec F S4x256x32x32 .f32) : Vec F S4096 .f32 :=
  (Host.divf) (r_v56 A0 A1) (r_v85 (F := F))

def r_v87 (A0 : Vec F S4x256x32x32 .f32) (A1 : Vec F S4x256x32x32 .f32) : Vec F S4096 .f32 :=
  (Host.exp) (r_v86 A0 A1)

def r_cst_15 : Vec F S_ .f32 :=
  (constant S_ .f32 0x3D8F5C29#32)

def r_v88 : Vec F S50x4096 .f32 :=
  (broadcastInDim S50x4096 ![] bcast_S_S50x4096) (r_cst_15 (F := F))

def r_v89 (A0 : Vec F S4x256x32x32 .f32) (A2 : Vec F S4x256x32x32 .f32) (A3 : Vec F S4x4x32x32 .f32) (A4 : Vec F S4x4x32x32 .f32) : Vec F S50x4096 .f32 :=
  (Host.divf) (r_v84 A0 A2 A3 A4) (r_v88 (F := F))

def r_v90 (A0 : Vec F S4x256x32x32 .f32) (A2 : Vec F S4x256x32x32 .f32) (A3 : Vec F S4x4x32x32 .f32) (A4 : Vec F S4x4x32x32 .f32) : Vec F S50x4096 .f32 :=
  (Host.exp) (r_v89 A0 A2 A3 A4)

def r_cst_16 : Vec F S_ .f32 :=
  (constant S_ .f32 0x00000000#32)

def r_v91 (A0 : Vec F S4x256x32x32 .f32) (A2 : Vec F S4x256x32x32 .f32) (A3 : Vec F S4x4x32x32 .f32) (A4 : Vec F S4x4x32x32 .f32) : Vec F S4096 .f32 :=
  ((fun x v => Host.reduceAdd x v reducesTo_S50x4096_S4096_d0 h_S_)) (r_v90 A0 A2 A3 A4) (r_cst_16 (F := F))

def r_v92 (A0 : Vec F S4x256x32x32 .f32) (A1 : Vec F S4x256x32x32 .f32) (A2 : Vec F S4x256x32x32 .f32) (A3 : Vec F S4x4x32x32 .f32) (A4 : Vec F S4x4x32x32 .f32) : Vec F S4096 .f32 :=
  (addf) (r_v91 A0 A2 A3 A4) (r_v87 A0 A1)

def r_cst_17 : Vec F S_ .f32 :=
  (constant S_ .f32 0x322BCC77#32)

def r_v93 : Vec F S4096 .f32 :=
  (broadcastInDim S4096 ![] bcast_S_S4096) (r_cst_17 (F := F))

def r_v94 (A0 : Vec F S4x256x32x32 .f32) (A1 : Vec F S4x256x32x32 .f32) (A2 : Vec F S4x256x32x32 .f32) (A3 : Vec F S4x4x32x32 .f32) (A4 : Vec F S4x4x32x32 .f32) : Vec F S4096 .f32 :=
  (addf) (r_v92 A0 A1 A2 A3 A4) (r_v93 (F := F))

def r_v95 (A0 : Vec F S4x256x32x32 .f32) (A1 : Vec F S4x256x32x32 .f32) (A2 : Vec F S4x256x32x32 .f32) (A3 : Vec F S4x4x32x32 .f32) (A4 : Vec F S4x4x32x32 .f32) : Vec F S4096 .f32 :=
  (Host.divf) (r_v87 A0 A1) (r_v94 A0 A1 A2 A3 A4)

def r_v96 (A0 : Vec F S4x256x32x32 .f32) (A1 : Vec F S4x256x32x32 .f32) (A2 : Vec F S4x256x32x32 .f32) (A3 : Vec F S4x4x32x32 .f32) (A4 : Vec F S4x4x32x32 .f32) : Vec F S4096 .f32 :=
  (Host.log) (r_v95 A0 A1 A2 A3 A4)

def r_cst_18 : Vec F S_ .f32 :=
  (constant S_ .f32 0x00000000#32)

def r_v97 (A0 : Vec F S4x256x32x32 .f32) (A1 : Vec F S4x256x32x32 .f32) (A2 : Vec F S4x256x32x32 .f32) (A3 : Vec F S4x4x32x32 .f32) (A4 : Vec F S4x4x32x32 .f32) : Vec F S_ .f32 :=
  ((fun x v => Host.reduceAdd x v reducesTo_S4096_S_d0 h_S_)) (r_v96 A0 A1 A2 A3 A4) (r_cst_18 (F := F))

def r_cst_19 : Vec F S_ .f32 :=
  (constant S_ .f32 0x45800000#32)

def r_v98 (A0 : Vec F S4x256x32x32 .f32) (A1 : Vec F S4x256x32x32 .f32) (A2 : Vec F S4x256x32x32 .f32) (A3 : Vec F S4x4x32x32 .f32) (A4 : Vec F S4x4x32x32 .f32) : Vec F S_ .f32 :=
  (Host.divf) (r_v97 A0 A1 A2 A3 A4) (r_cst_19 (F := F))

def r_v99 (A0 : Vec F S4x256x32x32 .f32) (A1 : Vec F S4x256x32x32 .f32) (A2 : Vec F S4x256x32x32 .f32) (A3 : Vec F S4x4x32x32 .f32) (A4 : Vec F S4x4x32x32 .f32) : Vec F S_ .f32 :=
  (Host.negf) (r_v98 A0 A1 A2 A3 A4)

def r_v100 (A1 : Vec F S4x256x32x32 .f32) : Vec F S1x4096x256 .f32 :=
  (broadcastInDim S1x4096x256 ![1, 2] bcast_S4096x256_S1x4096x256_1_2) (r_v13 A1)

def r_v101 (A1 : Vec F S4x256x32x32 .f32) : Vec F S50x4096x256 .f32 :=
  (broadcastInDim S50x4096x256 ![0, 1, 2] bcast_S1x4096x256_S50x4096x256_0_1_2) (r_v100 A1)

def r_v102 (A1 : Vec F S4x256x32x32 .f32) (A2 : Vec F S4x256x32x32 .f32) (A3 : Vec F S4x4x32x32 .f32) (A4 : Vec F S4x4x32x32 .f32) : Vec F S50x4096x256 .f32 :=
  (mulf) (r_v101 A1) (r_v74 A2 A3 A4)

def r_cst_20 : Vec F S_ .f32 :=
  (constant S_ .f32 0x00000000#32)

def r_v103 (A1 : Vec F S4x256x32x32 .f32) (A2 : Vec F S4x256x32x32 .f32) (A3 : Vec F S4x4x32x32 .f32) (A4 : Vec F S4x4x32x32 .f32) : Vec F S50x4096 .f32 :=
  ((fun x v => Host.reduceAdd x v reducesTo_S50x4096x256_S50x4096_d2 h_S_)) (r_v102 A1 A2 A3 A4) (r_cst_20 (F := F))

def r_call9_v0 (A1 : Vec F S4x256x32x32 .f32) : Vec F S50x4096x256 .f32 :=
  mulf (r_v101 A1) (r_v101 A1)

def r_call9_cst : Vec F S_ .f32 :=
  (constant S_ .f32 0x00000000#32)

def r_call9_v1 (A1 : Vec F S4x256x32x32 .f32) : Vec F S50x4096 .f32 :=
  (fun x v => Host.reduceAdd x v reducesTo_S50x4096x256_S50x4096_d2 h_S_) (r_call9_v0 A1) (r_call9_cst (F := F))

def r_v104 (A1 : Vec F S4x256x32x32 .f32) : Vec F S50x4096 .f32 :=
  Host.sqrt (r_call9_v1 A1)

def r_call10_v0 (A2 : Vec F S4x256x32x32 .f32) (A3 : Vec F S4x4x32x32 .f32) (A4 : Vec F S4x4x32x32 .f32) : Vec F S50x4096x256 .f32 :=
  mulf (r_v74 A2 A3 A4) (r_v74 A2 A3 A4)

def r_call10_cst : Vec F S_ .f32 :=
  (constant S_ .f32 0x00000000#32)

def r_call10_v1 (A2 : Vec F S4x256x32x32 .f32) (A3 : Vec F S4x4x32x32 .f32) (A4 : Vec F S4x4x32x32 .f32) : Vec F S50x4096 .f32 :=
  (fun x v => Host.reduceAdd x v reducesTo_S50x4096x256_S50x4096_d2 h_S_) (r_call10_v0 A2 A3 A4) (r_call10_cst (F := F))

def r_v105 (A2 : Vec F S4x256x32x32 .f32) (A3 : Vec F S4x4x32x32 .f32) (A4 : Vec F S4x4x32x32 .f32) : Vec F S50x4096 .f32 :=
  Host.sqrt (r_call10_v1 A2 A3 A4)

def r_v106 (A1 : Vec F S4x256x32x32 .f32) (A2 : Vec F S4x256x32x32 .f32) (A3 : Vec F S4x4x32x32 .f32) (A4 : Vec F S4x4x32x32 .f32) : Vec F S50x4096 .f32 :=
  (mulf) (r_v104 A1) (r_v105 A2 A3 A4)

def r_cst_21 : Vec F S_ .f32 :=
  (constant S_ .f32 0x322BCC77#32)

def r_v107 : Vec F S50x4096 .f32 :=
  (broadcastInDim S50x4096 ![] bcast_S_S50x4096) (r_cst_21 (F := F))

def r_v108 (A1 : Vec F S4x256x32x32 .f32) (A2 : Vec F S4x256x32x32 .f32) (A3 : Vec F S4x4x32x32 .f32) (A4 : Vec F S4x4x32x32 .f32) : Vec F S50x4096 .f32 :=
  (maximumf) (r_v106 A1 A2 A3 A4) (r_v107 (F := F))

def r_v109 (A1 : Vec F S4x256x32x32 .f32) (A2 : Vec F S4x256x32x32 .f32) (A3 : Vec F S4x4x32x32 .f32) (A4 : Vec F S4x4x32x32 .f32) : Vec F S50x4096 .f32 :=
  (Host.divf) (r_v103 A1 A2 A3 A4) (r_v108 A1 A2 A3 A4)

def r_cst_22 : Vec F S_ .f32 :=
  (constant S_ .f32 0x3D8F5C29#32)

def r_v110 : Vec F S50x4096 .f32 :=
  (broadcastInDim S50x4096 ![] bcast_S_S50x4096) (r_cst_22 (F := F))

def r_v111 (A1 : Vec F S4x256x32x32 .f32) (A2 : Vec F S4x256x32x32 .f32) (A3 : Vec F S4x4x32x32 .f32) (A4 : Vec F S4x4x32x32 .f32) : Vec F S50x4096 .f32 :=
  (Host.divf) (r_v109 A1 A2 A3 A4) (r_v110 (F := F))

def r_v112 (A1 : Vec F S4x256x32x32 .f32) (A2 : Vec F S4x256x32x32 .f32) (A3 : Vec F S4x4x32x32 .f32) (A4 : Vec F S4x4x32x32 .f32) : Vec F S50x4096 .f32 :=
  (Host.exp) (r_v111 A1 A2 A3 A4)

def r_cst_23 : Vec F S_ .f32 :=
  (constant S_ .f32 0x00000000#32)

def r_v113 (A1 : Vec F S4x256x32x32 .f32) (A2 : Vec F S4x256x32x32 .f32) (A3 : Vec F S4x4x32x32 .f32) (A4 : Vec F S4x4x32x32 .f32) : Vec F S4096 .f32 :=
  ((fun x v => Host.reduceAdd x v reducesTo_S50x4096_S4096_d0 h_S_)) (r_v112 A1 A2 A3 A4) (r_cst_23 (F := F))

def r_v114 (A0 : Vec F S4x256x32x32 .f32) (A1 : Vec F S4x256x32x32 .f32) (A2 : Vec F S4x256x32x32 .f32) (A3 : Vec F S4x4x32x32 .f32) (A4 : Vec F S4x4x32x32 .f32) : Vec F S4096 .f32 :=
  (addf) (r_v113 A1 A2 A3 A4) (r_v87 A0 A1)

def r_cst_24 : Vec F S_ .f32 :=
  (constant S_ .f32 0x322BCC77#32)

def r_v115 : Vec F S4096 .f32 :=
  (broadcastInDim S4096 ![] bcast_S_S4096) (r_cst_24 (F := F))

def r_v116 (A0 : Vec F S4x256x32x32 .f32) (A1 : Vec F S4x256x32x32 .f32) (A2 : Vec F S4x256x32x32 .f32) (A3 : Vec F S4x4x32x32 .f32) (A4 : Vec F S4x4x32x32 .f32) : Vec F S4096 .f32 :=
  (addf) (r_v114 A0 A1 A2 A3 A4) (r_v115 (F := F))

def r_v117 (A0 : Vec F S4x256x32x32 .f32) (A1 : Vec F S4x256x32x32 .f32) (A2 : Vec F S4x256x32x32 .f32) (A3 : Vec F S4x4x32x32 .f32) (A4 : Vec F S4x4x32x32 .f32) : Vec F S4096 .f32 :=
  (Host.divf) (r_v87 A0 A1) (r_v116 A0 A1 A2 A3 A4)

def r_v118 (A0 : Vec F S4x256x32x32 .f32) (A1 : Vec F S4x256x32x32 .f32) (A2 : Vec F S4x256x32x32 .f32) (A3 : Vec F S4x4x32x32 .f32) (A4 : Vec F S4x4x32x32 .f32) : Vec F S4096 .f32 :=
  (Host.log) (r_v117 A0 A1 A2 A3 A4)

def r_cst_25 : Vec F S_ .f32 :=
  (constant S_ .f32 0x00000000#32)

def r_v119 (A0 : Vec F S4x256x32x32 .f32) (A1 : Vec F S4x256x32x32 .f32) (A2 : Vec F S4x256x32x32 .f32) (A3 : Vec F S4x4x32x32 .f32) (A4 : Vec F S4x4x32x32 .f32) : Vec F S_ .f32 :=
  ((fun x v => Host.reduceAdd x v reducesTo_S4096_S_d0 h_S_)) (r_v118 A0 A1 A2 A3 A4) (r_cst_25 (F := F))

def r_cst_26 : Vec F S_ .f32 :=
  (constant S_ .f32 0x45800000#32)

def r_v120 (A0 : Vec F S4x256x32x32 .f32) (A1 : Vec F S4x256x32x32 .f32) (A2 : Vec F S4x256x32x32 .f32) (A3 : Vec F S4x4x32x32 .f32) (A4 : Vec F S4x4x32x32 .f32) : Vec F S_ .f32 :=
  (Host.divf) (r_v119 A0 A1 A2 A3 A4) (r_cst_26 (F := F))

def r_v121 (A0 : Vec F S4x256x32x32 .f32) (A1 : Vec F S4x256x32x32 .f32) (A2 : Vec F S4x256x32x32 .f32) (A3 : Vec F S4x4x32x32 .f32) (A4 : Vec F S4x4x32x32 .f32) : Vec F S_ .f32 :=
  (Host.negf) (r_v120 A0 A1 A2 A3 A4)

def r_v122 (A0 : Vec F S4x256x32x32 .f32) (A1 : Vec F S4x256x32x32 .f32) (A2 : Vec F S4x256x32x32 .f32) (A3 : Vec F S4x4x32x32 .f32) (A4 : Vec F S4x4x32x32 .f32) : Vec F S_ .f32 :=
  (addf) (r_v99 A0 A1 A2 A3 A4) (r_v121 A0 A1 A2 A3 A4)

def r_v123 (A0 : Vec F S4x256x32x32 .f32) (A1 : Vec F S4x256x32x32 .f32) (A2 : Vec F S4x256x32x32 .f32) (A3 : Vec F S4x4x32x32 .f32) (A4 : Vec F S4x4x32x32 .f32) : Vec F S1x1 .f32 :=
  shapeCast S1x1 (r_v122 A0 A1 A2 A3 A4) shapeCasts_S_S1x1

end Cert.ReferenceIdeal.Run

end
-- ==== Proof.RefRun.lean ====
/- The run of the reference's program. -/
module

public import proofs.«01_k».proof.Proof.RefModel
public import Idealize.ShloMosaic.Lib.Claim
public import Idealize.ShloMosaic.Lib.Quiescent

@[expose] public section

set_option maxRecDepth 16384

noncomputable section

namespace Cert.ReferenceIdeal.Run

open Idealize.ShloMosaic Idealize.ShloMosaic.TcCoe
open Cert.ReferenceIdeal

variable {F : FTy → Type} [FloatOps F]
variable (m : (ℓ : Loc nD τ sig) → Buf (Elt F) ℓ) (ρ : Dev nD → PrngReg)

set_option maxHeartbeats 4000000 in
/-- The reference ends with the chain of expressions `r_v123` of its arguments in its result, its arguments unchanged. -/
theorem value : θ_run defs (onTc (τ := τ) (main (F := F))) ⟨m, fun _ => 0, ρ⟩ (fun r => ∀ c : Dev nD,
      r.2.mem ((c.tc : Thread nD τ).loc main_v123) = r_v123 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  hlo_run
  rfl

/-- The reference ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩) (value m ρ)

end Cert.ReferenceIdeal.Run

end
-- ==== Proof.Shape.lean ====
/- The kernel's value in blocks: each step of the kernel once, and `outVal` as their composition. -/
module

public import proofs.«01_k».proof.Proof.Model

@[expose] public section

noncomputable section

namespace Cert.KernelIdeal.Run

open Cert.KernelIdeal.Gen
open Idealize.ShloMosaic Idealize.ShloMosaic.TcCoe

variable {F : FTy → Type} [FloatOps F]

/-- A literal in every place of a shape. -/
def fill (s : Shape) (b : BitVec 32) : FVec F s .f32 := broadcast s (Scalar.ofBits .f32 b)

/-- The softmax over the four classes, its greatest entry, and the class it is first reached at (4 where not). -/
def smB (l : FVec F S4x4096 .f32) : FVec F S4x4096 .f32 :=
  let e := exp (subf l (broadcastTo S4x4096 (shapeCast S1x4096 (multiReduction .maximumf [0] S4096 l 0xFF800000#32 reduces_S4x4096_S4096 (.inl rfl) rfl) shapeCasts_S4096_S1x4096) broadcasts_S1x4096_S4x4096))
  divf e (broadcastTo S4x4096 (shapeCast S1x4096 (multiReduction .add [0] S4096 e 0x00000000#32 reduces_S4x4096_S4096 (.inl rfl) rfl) shapeCasts_S4096_S1x4096) broadcasts_S1x4096_S4x4096)

def pmB (p : FVec F S4x4096 .f32) : FVec F S1x4096 .f32 :=
  shapeCast S1x4096 (multiReduction .maximumf [0] S4096 p 0xFF800000#32 reduces_S4x4096_S4096 (.inl rfl) rfl) shapeCasts_S4096_S1x4096

def clsB : FVec F S4x4096 .f32 := sitofp .f32 (iota .tc S4x4096 32 [0] iota_S4x4096_d0_w32)

def segB (p : FVec F S4x4096 .f32) : FVec F S1x4096 .f32 :=
  shapeCast S1x4096 (multiReduction .minimumf [0] S4096
    (select (cmpf .oeq p (broadcastTo S4x4096 (pmB p) broadcasts_S1x4096_S4x4096)) (clsB (F := F)) (fill S4x4096 0x40800000#32))
    0x7F800000#32 reduces_S4x4096_S4096 (.inl rfl) rfl) shapeCasts_S4096_S1x4096

/-- The value of each token for each class: its greatest probability, or zero for the token's own class. -/
def valB (p : FVec F S4x4096 .f32) : FVec F S4x4096 .f32 :=
  select (cmpf .one (broadcastTo S4x4096 (segB p) broadcasts_S1x4096_S4x4096) (clsB (F := F)))
    (broadcastTo S4x4096 (shapeCast S1x4096 (pmB p) shapeCasts_S1x4096_S1x4096) broadcasts_S1x4096_S4x4096) (fill S4x4096 0x00000000#32)

def valT (p : FVec F S4x4096 .f32) : FVec F S4x32x128 .f32 := shapeCast S4x32x128 (valB p) shapeCasts_S4x4096_S4x32x128

/-- A 0/1 mask as numbers. -/
def num {s : Shape} (b : IVec s 1) : FVec F s .f32 := sitofp .f32 (extui 32 b natLt_1_32)

/-- How many of each class are set. -/
def cntB (b : IVec S4x32x128 1) : FVec F S4x1x1 .f32 :=
  shapeCast S4x1x1 (multiReduction .add [1, 2] S4 (num b) 0x00000000#32 reduces_S4x32x128_S4 (.inl rfl) rfl) shapeCasts_S4_S4x1x1

/-- One round of the threshold's search. -/
def roundB (v : FVec F S4x32x128 .f32) (t : FVec F S4x1x1 .f32) : FVec F S4x1x1 .f32 :=
  let tb := broadcastTo S4x32x128 t broadcasts_S4x1x1_S4x32x128
  select (cmpf .oge (cntB (F := F) (cmpf .oge v tb)) (fill S4x1x1 0x42480000#32)) t
    (shapeCast S4x1x1 (multiReduction .maximumf [1, 2] S4 (select (cmpf .olt v tb) v (fill S4x32x128 0xFF800000#32))
      0xFF800000#32 reduces_S4x32x128_S4 (.inl rfl) rfl) shapeCasts_S4_S4x1x1)

/-- The inclusive count of each class's mask up to each place: a triangular product within a row of 128, and the
    counts of the class's earlier rows. -/
def upperB : FVec F S128x128 .f32 := k0_pay12 k0_pay11

def earlierB : FVec F S128x128 .f32 :=
  num (andi (cmpi .eq k0_pay13 (select (andi k0_pay15 k0_pay16) (subi k0_pay14 (broadcast S128x128 1#32)) k0_pay14))
    (cmpi .slt (iota .tc S128x128 32 [1] iota_S128x128_d1_w32) (iota .tc S128x128 32 [0] iota_S128x128_d0_w32)))

def prefB (b : IVec S4x32x128 1) : FVec F S4x32x128 .f32 :=
  let p := matmul dot_S128x128_S128x128_S128x128_1_0_0_1_n_n none (shapeCast S128x128 (num b) shapeCasts_S4x32x128_S128x128) upperB (constant S128x128 .f32 0x00000000#32)
  shapeCast S4x32x128 (addf p (broadcastTo S128x128 (matmul dot_S128x128_S128x1_S128x1_1_0_0_1_n_n none earlierB
    (extractStridedSlice S128x1 ![0, 127] p slices_S128x128_o0_127_S128x1) (constant S128x1 .f32 0x00000000#32)) broadcasts_S128x1_S128x128)) shapeCasts_S128x128_S4x32x128

/-- The chosen tokens of each class, and their ranks. -/
def selB (v : FVec F S4x32x128 .f32) (t : FVec F S4x1x1 .f32) : IVec S4x32x128 1 :=
  let tb := broadcastTo S4x32x128 t broadcasts_S4x1x1_S4x32x128
  ori (cmpf .ogt v tb) (andi (cmpf .oeq v tb) (cmpf .olt (subf (prefB (F := F) (cmpf .oeq v tb)) (num (cmpf .oeq v tb)))
    (broadcastTo S4x32x128 (subf (fill S4x1x1 0x42480000#32) (cntB (F := F) (cmpf .ogt v tb))) broadcasts_S4x1x1_S4x32x128)))

def rankB (sel : IVec S4x32x128 1) : FVec F S4x32x128 .f32 := select sel (prefB sel) (fill S4x32x128 0x00000000#32)

/-- A class's ranks against the numbers 1 to 64: row `k` marks the token of rank `k + 1`. -/
def hotB (r : FVec F S1x32x128 .f32) : FVec F S64x4096 .f32 :=
  num (cmpf .oeq (broadcastTo S64x4096 (shapeCast S1x4096 (shapeCast S32x128 r shapeCasts_S1x32x128_S32x128) shapeCasts_S32x128_S1x4096) broadcasts_S1x4096_S64x4096)
    (broadcastTo S64x4096 (k0_pay18 (F := F)) broadcasts_S64x1_S64x4096))

/-- The rows the marks pick out of the negative features. -/
def pickB (h : FVec F S64x4096 .f32) (g0 g1 g2 g3 : Vec F S1x256x1024 .f32) : FVec F S64x256 .f32 :=
  let part (a : FVec F S64x1024 .f32) (g : Vec F S1x256x1024 .f32) : FVec F S64x256 .f32 :=
    matmul dot_S64x1024_S256x1024_S64x256_1_1_0_0_n_n none a (shapeCast S256x1024 g shapeCasts_S1x256x1024_S256x1024) (constant S64x256 .f32 0x00000000#32)
  addf (addf (addf (addf (fill S64x256 0x00000000#32)
    (part (extractStridedSlice S64x1024 ![0, 0] h slices_S64x4096_o0_0_S64x1024) g0))
    (part (extractStridedSlice S64x1024 ![0, 1024] h slices_S64x4096_o0_1024_S64x1024) g1))
    (part (extractStridedSlice S64x1024 ![0, 2048] h slices_S64x4096_o0_2048_S64x1024) g2))
    (part (extractStridedSlice S64x1024 ![0, 3072] h slices_S64x4096_o0_3072_S64x1024) g3)

def rowsB (r : FVec F S4x32x128 .f32) (g0 g1 g2 g3 : Vec F S1x256x1024 .f32) : FVec F S256x256 .f32 :=
  concatenate S256x256 0 [
    ⟨S64x256, pickB (hotB (extractStridedSlice S1x32x128 ![0, 0, 0] r slices_S4x32x128_o0_0_0_S1x32x128)) g0 g1 g2 g3⟩,
    ⟨S64x256, pickB (hotB (extractStridedSlice S1x32x128 ![1, 0, 0] r slices_S4x32x128_o1_0_0_S1x32x128)) g0 g1 g2 g3⟩,
    ⟨S64x256, pickB (hotB (extractStridedSlice S1x32x128 ![2, 0, 0] r slices_S4x32x128_o2_0_0_S1x32x128)) g0 g1 g2 g3⟩,
    ⟨S64x256, pickB (hotB (extractStridedSlice S1x32x128 ![3, 0, 0] r slices_S4x32x128_o3_0_0_S1x32x128)) g0 g1 g2 g3⟩]
    concatenates_S64x256_S64x256_S64x256_S64x256_S256x256_d0

/-- Rows divided by their clamped norms. -/
def unitB (g : FVec F S256x256 .f32) : FVec F S256x256 .f32 :=
  divf g (broadcastTo S256x256 (maximumf (sqrt (shapeCast S256x1 (multiReduction .add [1] S256 (mulf g g) 0x00000000#32 reduces_S256x256_S256 (.inl rfl) rfl) shapeCasts_S256_S256x1))
    (fill S256x1 0x2B8CBCCC#32)) broadcasts_S256x1_S256x256)

/-- Column sums, and the clamped norms of the columns. -/
def colB (x : FVec F S256x1024 .f32) : FVec F S1x1024 .f32 :=
  matmul dot_S1x256_S256x1024_S1x1024_1_0_0_1_n_n none (fill S1x256 0x3F800000#32) x (constant S1x1024 .f32 0x00000000#32)

def nmB (x : FVec F S256x1024 .f32) : FVec F S1x1024 .f32 :=
  maximumf (sqrt (colB (mulf x x))) (fill S1x1024 0x2B8CBCCC#32)

def nomB (x p : FVec F S256x1024 .f32) : FVec F S1x1024 .f32 :=
  exp (divf (divf (colB (mulf x p)) (mulf (nmB x) (nmB p))) (fill S1x1024 0x3D8F5C29#32))

/-- The products with the chosen rows of each token's class. -/
def dotsB (g : FVec F S256x256 .f32) (sg : FVec F S1x1024 .f32) (x : FVec F S256x1024 .f32) : FVec F S64x1024 .f32 :=
  let S := matmul dot_S256x256_S256x1024_S256x1024_1_0_0_1_n_n none g x (constant S256x1024 .f32 0x00000000#32)
  let is (b : BitVec 32) : IVec S64x1024 1 := broadcastTo S64x1024 (shapeCast S1x1024 (cmpf .oeq sg (fill S1x1024 b)) shapeCasts_S1x1024_S1x1024) broadcasts_S1x1024_S64x1024
  select (is 0x40400000#32) (extractStridedSlice S64x1024 ![192, 0] S slices_S256x1024_o192_0_S64x1024)
    (select (is 0x40000000#32) (extractStridedSlice S64x1024 ![128, 0] S slices_S256x1024_o128_0_S64x1024)
      (select (is 0x3F800000#32) (extractStridedSlice S64x1024 ![64, 0] S slices_S256x1024_o64_0_S64x1024)
        (extractStridedSlice S64x1024 ![0, 0] S slices_S256x1024_o0_0_S64x1024)))

def denB (s : FVec F S64x1024 .f32) (rn nom : FVec F S1x1024 .f32) : FVec F S1x1024 .f32 :=
  addf (shapeCast S1x1024 (multiReduction .add [0] S1024
    (select (broadcastTo S64x1024 (shapeCast S64x1 (k0_pay32 (F := F)) shapeCasts_S64x1_S64x1) broadcasts_S64x1_S64x1024)
      (exp (divf s (broadcastTo S64x1024 (mulf rn (fill S1x1024 0x3D8F5C29#32)) broadcasts_S1x1024_S64x1024)))
      (fill S64x1024 0x00000000#32)) 0x00000000#32 reduces_S64x1024_S1024 (.inl rfl) rfl) shapeCasts_S1024_S1x1024) nom

def lossB (nom d1 d2 : FVec F S1x1024 .f32) : FVec F S1x1 .f32 :=
  let lg (d : FVec F S1x1024 .f32) : FVec F S1x1024 .f32 := log (divf nom (addf d (fill S1x1024 0x322BCC77#32)))
  shapeCast S1x1 (multiReduction .add [1] S1 (subf (subf (fill S1x1024 0x00000000#32) (lg d1)) (lg d2)) 0x00000000#32
    reduces_S1x1024_S1 (.inl rfl) rfl) shapeCasts_S1_S1x1

/-- One batch's loss. -/
def batchB (g : FVec F S256x256 .f32) (sg : FVec F S1x1024 .f32) (xs ps : Vec F S1x256x1024 .f32) : FVec F S1x1 .f32 :=
  let x := shapeCast S256x1024 xs shapeCasts_S1x256x1024_S256x1024
  let p := shapeCast S256x1024 ps shapeCasts_S1x256x1024_S256x1024
  lossB (nomB x p) (denB (dotsB g sg x) (nmB x) (nomB x p)) (denB (dotsB g sg p) (nmB p) (nomB x p))

/-- The four slabs of logits side by side. -/
def catB (L : Vec F S4x4x1024 .f32) : FVec F S4x4096 .f32 := k0_pay2 (slabL L 0) (slabL L 1) (slabL L 2) (slabL L 3)

def thrB (v : FVec F S4x32x128 .f32) : FVec F S4x1x1 .f32 :=
  Scf.fold (n := Scf.trips k0_t1_loop.lb k0_t1_loop.ub k0_t1_loop.st) (fun _ acc => roundB v acc) (fill S4x1x1 0x7F800000#32)

/-- The chosen negative rows, normalised. -/
def negB (G : Vec F S4x256x1024 .f32) (M : Vec F S4x4x1024 .f32) : FVec F S256x256 .f32 :=
  let v := valT (smB (catB M))
  unitB (rowsB (rankB (selB v (thrB v))) (slab G 0) (slab G 1) (slab G 2) (slab G 3))

theorem thr_eq (X P G : Vec F S4x256x1024 .f32) (L M : Vec F S4x4x1024 .f32) :
    m2 X P G L M = thrB (valT (smB (catB M))) := rfl

theorem seg_eq (X P G : Vec F S4x256x1024 .f32) (L M : Vec F S4x4x1024 .f32) :
    m3 X P G L M = segB (smB (catB L)) := rfl

theorem rank_eq (X P G : Vec F S4x256x1024 .f32) (L M : Vec F S4x4x1024 .f32) :
    m7 X P G L M = rankB (selB (valT (smB (catB M))) (thrB (valT (smB (catB M))))) := rfl

theorem neg_eq (X P G : Vec F S4x256x1024 .f32) (L M : Vec F S4x4x1024 .f32) :
    m18 X P G L M = negB G M := by
  unfold negB; dsimp only; rw [← rank_eq X P G L M]; rfl

/-- The kernel's value: the four batches' losses added up, over the number of tokens. -/
theorem outVal_eq (X P G : Vec F S4x256x1024 .f32) (L M : Vec F S4x4x1024 .f32) :
    outVal X P G L M =
      (let g := negB G M
       let s := segB (smB (catB L))
       divf (addf (addf (addf (addf (fill S1x1 0x00000000#32)
          (batchB g (extractStridedSlice S1x1024 ![0, 0] s slices_S1x4096_o0_0_S1x1024) (slab X 0) (slab P 0)))
          (batchB g (extractStridedSlice S1x1024 ![0, 1024] s slices_S1x4096_o0_1024_S1x1024) (slab X 1) (slab P 1)))
          (batchB g (extractStridedSlice S1x1024 ![0, 2048] s slices_S1x4096_o0_2048_S1x1024) (slab X 2) (slab P 2)))
          (batchB g (extractStridedSlice S1x1024 ![0, 3072] s slices_S1x4096_o0_3072_S1x1024) (slab X 3) (slab P 3)))
        (fill S1x1 0x45800000#32)) := by
  dsimp only; rw [← neg_eq X P G L M, ← seg_eq X P G L M]; rfl

end Cert.KernelIdeal.Run

end
-- ==== Proof.Select.lean ====
/- Choosing the first `K` of finitely many values, the greater first and equal ones in index order: by sorting, and by
   a threshold with the ties filled up in index order. -/
module

public import Idealize.ShloMosaic.Lib.SortFacts
public import Mathlib.Data.Finset.Sort
public import Mathlib.Data.EReal.Basic
public import Mathlib.Order.Interval.Finset.Fin
public import Mathlib.Algebra.BigOperators.Group.Finset.Basic
public import Mathlib.Data.Fintype.BigOperators

@[expose] public section

noncomputable section

namespace Cert.Select

open Idealize.ShloMosaic
open scoped Classical

variable {n : ℕ} (v : Fin n → EReal)

/-- `a` comes before `b`: its value is greater, or the values are equal and `a` is the earlier index. -/
def Prec (a b : Fin n) : Prop := v b < v a ∨ (v a = v b ∧ a < b)

/-- How many come before `j`. -/
def pos (j : Fin n) : ℕ := (Finset.univ.filter fun i => Prec v i j).card

/-- The first `K`. -/
def chosen (K : ℕ) : Finset (Fin n) := Finset.univ.filter fun j => pos v j < K

theorem Prec.trans {a b c : Fin n} (h : Prec v a b) (h' : Prec v b c) : Prec v a c := by
  rcases h with h | ⟨h, hi⟩ <;> rcases h' with h' | ⟨h', hi'⟩
  · exact .inl (h'.trans h)
  · exact .inl (h' ▸ h)
  · exact .inl (h ▸ h')
  · exact .inr ⟨h.trans h', hi.trans hi'⟩

theorem Prec.irrefl (a : Fin n) : ¬ Prec v a a := by
  rintro (h | ⟨-, h⟩) <;> exact lt_irrefl _ h

/-- Inserting an index before all of those in an ordered list keeps the order. -/
theorem pairwise_insert (before : Fin n → Fin n → Bool) (hb : ∀ a b, before a b = true ↔ v b < v a) (a : Fin n)
    (l : List (Fin n)) (ha : ∀ b ∈ l, a < b) (hl : l.Pairwise (Prec v)) :
    (insertBefore before a l).Pairwise (Prec v) := by
  induction l with
  | nil => simp [insertBefore]
  | cons b l ih =>
    unfold insertBefore
    split
    · rename_i hba
      refine List.Pairwise.cons ?_ (ih (fun c hc => ha c (by simp [hc])) hl.tail)
      intro c hc
      rcases List.mem_cons.mp ((perm_insertBefore before a l).mem_iff.mp hc) with rfl | hc
      · exact .inl ((hb _ _).mp hba)
      · exact List.rel_of_pairwise_cons hl hc
    · rename_i hba
      have hab : Prec v a b := by
        rcases lt_or_eq_of_le (not_lt.mp (fun h => hba ((hb _ _).mpr h))) with h | h
        · exact .inl h
        · exact .inr ⟨h.symm, ha b (by simp)⟩
      refine List.Pairwise.cons ?_ hl
      intro c hc
      rcases List.mem_cons.mp hc with rfl | hc
      · exact hab
      · exact Prec.trans v hab (List.rel_of_pairwise_cons hl hc)

theorem pairwise_sort (before : Fin n → Fin n → Bool) (hb : ∀ a b, before a b = true ↔ v b < v a)
    (l : List (Fin n)) (hl : l.Pairwise (· < ·)) : (stableSort before l).Pairwise (Prec v) := by
  induction l with
  | nil => simp [stableSort]
  | cons a l ih =>
    exact pairwise_insert v before hb a _
      (fun b hbm => List.rel_of_pairwise_cons hl ((perm_stableSort before l).mem_iff.mp hbm)) (ih hl.tail)

/-- The index the sort puts at `k` has exactly `k` before it. -/
theorem pos_sortedFrom (before : Fin n → Fin n → Bool) (hb : ∀ a b, before a b = true ↔ v b < v a) (k : Fin n) :
    pos v (sortedFrom before k) = k.val := by
  have hp : (sortPositions n before).Pairwise (Prec v) := pairwise_sort v before hb _ (List.pairwise_lt_finRange n)
  have hlt : ∀ a b : Fin n, a < b → Prec v (sortedFrom before a) (sortedFrom before b) := fun a b hab =>
    List.pairwise_iff_get.mp hp _ _ (by simpa using hab)
  have hiff : ∀ a b : Fin n, Prec v (sortedFrom before a) (sortedFrom before b) ↔ a < b := by
    intro a b
    refine ⟨fun h => ?_, hlt a b⟩
    by_contra hn
    rcases lt_or_eq_of_le (not_lt.mp hn) with h' | h'
    · exact Prec.irrefl v _ (Prec.trans v h (hlt b a h'))
    · exact Prec.irrefl v _ (h' ▸ h)
  have : (Finset.univ.filter fun i => Prec v i (sortedFrom before k))
      = (Finset.univ.filter fun a : Fin n => a < k).map ⟨sortedFrom before, sortedFrom_injective before⟩ := by
    ext i
    obtain ⟨a, rfl⟩ := sortedFrom_surjective before i
    simp [hiff, (sortedFrom_injective before).eq_iff]
  unfold pos
  rw [this, Finset.card_map]
  have : (Finset.univ.filter fun a : Fin n => a < k) = Finset.Iio k := by ext; simp
  rw [this, Fin.card_Iio]

/-- The sort's first `K` are the chosen ones, each once. -/
theorem chosen_eq_map (before : Fin n → Fin n → Bool) (hb : ∀ a b, before a b = true ↔ v b < v a) (K : ℕ) (hK : K ≤ n) :
    chosen v K = Finset.univ.map ⟨fun k : Fin K => sortedFrom before (k.castLE hK), fun a b h =>
      Fin.castLE_injective hK (sortedFrom_injective before h)⟩ := by
  ext i
  obtain ⟨a, rfl⟩ := sortedFrom_surjective before i
  simp only [chosen, Finset.mem_filter, Finset.mem_univ, true_and, pos_sortedFrom v before hb, Finset.mem_map,
    Function.Embedding.coeFn_mk, (sortedFrom_injective before).eq_iff]
  exact ⟨fun h => ⟨⟨a, h⟩, rfl⟩, fun ⟨k, hk⟩ => by
    have := sortedFrom_injective before hk
    rw [← this]; exact k.isLt⟩

theorem sum_sortedFrom (before : Fin n → Fin n → Bool) (hb : ∀ a b, before a b = true ↔ v b < v a) (K : ℕ) (hK : K ≤ n)
    {M : Type*} [AddCommMonoid M] (h : Fin n → M) :
    ∑ k : Fin K, h (sortedFrom before (k.castLE hK)) = ∑ j ∈ chosen v K, h j := by
  rw [chosen_eq_map v before hb K hK, Finset.sum_map]; rfl

theorem card_chosen (K : ℕ) (hK : K ≤ n) : (chosen v K).card = K := by
  rw [chosen_eq_map v (fun a b => decide (v b < v a)) (by simp) K hK, Finset.card_map]; simp

/-- How many are above `t`, and how many are at least `t`. -/
def above (t : EReal) : ℕ := (Finset.univ.filter fun i => t < v i).card
def atLeast (t : EReal) : ℕ := (Finset.univ.filter fun i => t ≤ v i).card
/-- How many before `j` have the value `t`. -/
def tiesBefore (t : EReal) (j : Fin n) : ℕ := (Finset.univ.filter fun i => v i = t ∧ i < j).card

/-- With a threshold that fewer than `K` exceed and at least `K` reach, the chosen ones are those above it and the
    first of those at it, up to `K`. -/
theorem mem_chosen (K : ℕ) (t : EReal) (h1 : above v t < K) (h2 : K ≤ atLeast v t) (j : Fin n) :
    j ∈ chosen v K ↔ t < v j ∨ (v j = t ∧ above v t + tiesBefore v t j < K) := by
  simp only [chosen, Finset.mem_filter, Finset.mem_univ, true_and]
  rcases lt_trichotomy t (v j) with h | h | h
  · refine ⟨fun _ => .inl h, fun _ => lt_of_le_of_lt (Finset.card_le_card ?_) h1⟩
    intro i; simp only [Finset.mem_filter, Finset.mem_univ, true_and]
    rintro (hi | ⟨hi, -⟩)
    · exact h.trans hi
    · exact hi ▸ h
  · have : pos v j = above v t + tiesBefore v t j := by
      unfold pos above tiesBefore
      rw [← Finset.card_union_of_disjoint]
      · congr 1; ext i; simp only [Finset.mem_filter, Finset.mem_univ, true_and, Finset.mem_union, Prec, ← h]
      · rw [Finset.disjoint_filter]; rintro i - hi ⟨hi', -⟩; exact absurd (hi' ▸ hi) (lt_irrefl _)
    rw [this]
    exact ⟨fun hh => .inr ⟨h.symm, hh⟩, fun hh => hh.elim (fun h' => absurd (h ▸ h') (lt_irrefl _)) (·.2)⟩
  · refine ⟨fun hh => ?_, fun hh => ?_⟩
    · exfalso
      refine absurd (h2.trans (Finset.card_le_card ?_)) (not_le.mpr hh)
      intro i; simp only [Finset.mem_filter, Finset.mem_univ, true_and]
      exact fun hi => .inl (h.trans_le hi)
    · rcases hh with hh | ⟨hh, -⟩
      · exact absurd hh (not_lt.mpr h.le)
      · exact absurd hh h.ne

/-- The greatest value below `t`. -/
def below (t : EReal) : EReal := Finset.univ.sup fun i => if v i < t then v i else ⊥

/-- One round of the search: keep a threshold that `K` reach, else go to the greatest value below it. -/
def step (K : ℕ) (t : EReal) : EReal := if K ≤ atLeast v t then t else below v t

theorem step_spec (K r : ℕ) (hK : K ≤ n) (t : EReal) (h1 : above v t < K) (h2 : min r K ≤ atLeast v t) :
    above v (step v K t) < K ∧ min (r + 1) K ≤ atLeast v (step v K t) := by
  unfold step
  split
  · rename_i h; exact ⟨h1, (min_le_right _ _).trans h⟩
  · rename_i h
    have h := not_le.mp h
    have hne : ∃ j, v j < t := by
      by_contra hc
      have hc := not_exists.mp hc
      have : atLeast v t = n := by
        unfold atLeast
        rw [Finset.filter_true_of_mem (fun i _ => not_lt.mp (hc i))]; simp
      omega
    obtain ⟨j0, hj0⟩ := hne
    haveI : Nonempty (Fin n) := ⟨j0⟩
    obtain ⟨jm, -, hjm⟩ := Finset.exists_mem_eq_sup (Finset.univ : Finset (Fin n)) ⟨j0, Finset.mem_univ _⟩
      (fun i => if v i < t then v i else ⊥)
    have hle : ∀ i, v i < t → v i ≤ below v t := fun i hi => by
      have := Finset.le_sup (f := fun i => if v i < t then v i else ⊥) (Finset.mem_univ i)
      unfold below
      simpa [hi] using this
    have hw : ∃ i, v i < t ∧ v i = below v t := by
      by_cases hm : v jm < t
      · exact ⟨jm, hm, by unfold below; rw [hjm, if_pos hm]⟩
      · refine ⟨j0, hj0, le_antisymm (hle _ hj0) ?_⟩
        unfold below; rw [hjm, if_neg hm]; exact bot_le
    obtain ⟨i, hi, hib⟩ := hw
    have hbt : below v t < t := hib ▸ hi
    constructor
    · refine lt_of_le_of_lt (Finset.card_le_card ?_) h
      intro k; simp only [Finset.mem_filter, Finset.mem_univ, true_and]
      intro hk
      by_contra hkt
      exact absurd (hle k (not_le.mp hkt)) (not_le.mpr hk)
    · have : atLeast v t < atLeast v (below v t) := by
        refine Finset.card_lt_card ⟨?_, ?_⟩
        · intro k; simp only [Finset.mem_filter, Finset.mem_univ, true_and]; exact fun hk => hbt.le.trans hk
        · intro hs
          have := hs (show i ∈ _ by simp [hib])
          simp only [Finset.mem_filter, Finset.mem_univ, true_and] at this
          exact absurd this (not_le.mpr hi)
      omega

/-- `K` rounds from the top end at a threshold that fewer than `K` exceed and at least `K` reach. -/
theorem search_spec (K : ℕ) (h0 : 0 < K) (hK : K ≤ n) {ι : Type*} (l : List ι) (hl : l.length = K) :
    above v (l.foldl (fun t _ => step v K t) ⊤) < K ∧ K ≤ atLeast v (l.foldl (fun t _ => step v K t) ⊤) := by
  have key : ∀ (l : List ι) (r : ℕ) (t : EReal), above v t < K → min r K ≤ atLeast v t →
      above v (l.foldl (fun t _ => step v K t) t) < K ∧
        min (r + l.length) K ≤ atLeast v (l.foldl (fun t _ => step v K t) t) := by
    intro l
    induction l with
    | nil => intro r t h1 h2; exact ⟨h1, by simpa using h2⟩
    | cons a l ih =>
      intro r t h1 h2
      have := step_spec v K r hK t h1 h2
      have := ih (r + 1) _ this.1 this.2
      simp only [List.foldl_cons, List.length_cons]
      refine ⟨this.1, ?_⟩
      have h := this.2
      rwa [show r + 1 + l.length = r + (l.length + 1) by omega] at h
  have := key l 0 ⊤ (by simpa [above] using h0) (by simp)
  refine ⟨this.1, ?_⟩
  have h := this.2
  rw [hl] at h; simpa using h

/-- How many of `S` are at most `j`. -/
def rank (S : Finset (Fin n)) (j : Fin n) : ℕ := (S.filter fun i => i ≤ j).card

/-- The members of `S` in index order: the one at `k` has rank `k + 1`. -/
theorem rank_orderEmb (S : Finset (Fin n)) {K : ℕ} (h : S.card = K) (k : Fin K) :
    rank S (S.orderEmbOfFin h k) = k.val + 1 := by
  have : (S.filter fun i => i ≤ S.orderEmbOfFin h k) = (Finset.Iic k).map (S.orderEmbOfFin h).toEmbedding := by
    ext i
    simp only [Finset.mem_filter, Finset.mem_map, Finset.mem_Iic, RelEmbedding.coe_toEmbedding]
    constructor
    · rintro ⟨hi, hle⟩
      obtain ⟨a, rfl⟩ : i ∈ Set.range (S.orderEmbOfFin h) := by rw [Finset.range_orderEmbOfFin]; exact hi
      exact ⟨a, (S.orderEmbOfFin h).le_iff_le.mp hle, rfl⟩
    · rintro ⟨a, ha, rfl⟩
      exact ⟨Finset.orderEmbOfFin_mem S h a, (S.orderEmbOfFin h).le_iff_le.mpr ha⟩
  unfold rank
  rw [this, Finset.card_map, Fin.card_Iic]

theorem mem_rank_iff (S : Finset (Fin n)) {K : ℕ} (h : S.card = K) (k : Fin K) (j : Fin n) :
    (j ∈ S ∧ rank S j = k.val + 1) ↔ j = S.orderEmbOfFin h k := by
  constructor
  · rintro ⟨hj, hr⟩
    obtain ⟨a, rfl⟩ : j ∈ Set.range (S.orderEmbOfFin h) := by rw [Finset.range_orderEmbOfFin]; exact hj
    rw [rank_orderEmb S h] at hr
    exact congrArg _ (Fin.ext (by omega))
  · rintro rfl; exact ⟨Finset.orderEmbOfFin_mem S h k, rank_orderEmb S h k⟩

theorem sum_orderEmb (S : Finset (Fin n)) {K : ℕ} (h : S.card = K) {M : Type*} [AddCommMonoid M] (g : Fin n → M) :
    ∑ k : Fin K, g (S.orderEmbOfFin h k) = ∑ j ∈ S, g j := by
  conv_rhs => rw [← Finset.image_orderEmbOfFin_univ S h]
  rw [Finset.sum_image (fun a _ b _ hab => (S.orderEmbOfFin h).injective hab)]

end Cert.Select

end
-- ==== Proof.Cosine.lean ====
/- Norms, normalised rows and cosines over the extended reals. -/
module

public import Idealize.ShloMosaic.Lib.Pointwise
public import Idealize.ShloMosaic.Lib.IdealHost

@[expose] public section

noncomputable section

namespace Cert.Cosine

open Idealize.ShloMosaic

/-! ## The constants -/

/-- The clamp of the norms, the clamp of the cosine's divisor and the temperature, as reals. -/
def epsR : ℝ := 9223372 * 2 ^ (-63 : ℤ)
def smallR : ℝ := 11258999 * 2 ^ (-50 : ℤ)
def tauR : ℝ := 9395241 * 2 ^ (-27 : ℤ)

theorem epsR_pos : 0 < epsR := by unfold epsR; positivity
theorem smallR_pos : 0 < smallR := by unfold smallR; positivity
theorem tauR_pos : 0 < tauR := by unfold tauR; positivity
theorem smallR_le_one : smallR ≤ 1 := by unfold smallR; norm_num

theorem lit_eps : Ideal.ofBits .f32 0x2B8CBCCC#32 = (epsR : EReal) := by
  simp [Ideal.ofBits, Ideal.ieee, -EReal.coe_mul, epsR]
theorem lit_small : Ideal.ofBits .f32 0x322BCC77#32 = (smallR : EReal) := by
  simp [Ideal.ofBits, Ideal.ieee, -EReal.coe_mul, smallR]
theorem lit_tau : Ideal.ofBits .f32 0x3D8F5C29#32 = (tauR : EReal) := by
  simp [Ideal.ofBits, Ideal.ieee, -EReal.coe_mul, tauR]
theorem lit_4096 : Ideal.ofBits .f32 0x45800000#32 = ((4096 : ℝ) : EReal) := by
  simp [Ideal.ofBits, Ideal.ieee, -EReal.coe_mul]; norm_num
theorem lit_50 : Ideal.ofBits .f32 0x42480000#32 = ((50 : ℝ) : EReal) := by
  simp [Ideal.ofBits, Ideal.ieee, -EReal.coe_mul]; norm_num
theorem lit_2 : Ideal.ofBits .f32 0x40000000#32 = ((2 : ℝ) : EReal) := by
  simp [Ideal.ofBits, Ideal.ieee, -EReal.coe_mul]; norm_num
theorem lit_3 : Ideal.ofBits .f32 0x40400000#32 = ((3 : ℝ) : EReal) := by
  simp [Ideal.ofBits, Ideal.ieee, -EReal.coe_mul]; norm_num
theorem lit_4 : Ideal.ofBits .f32 0x40800000#32 = ((4 : ℝ) : EReal) := by
  simp [Ideal.ofBits, Ideal.ieee, -EReal.coe_mul]; norm_num
theorem lit_top : Ideal.ofBits .f32 0x7F800000#32 = ⊤ := by simp [Ideal.ofBits, Ideal.ieee]
theorem lit_bot : Ideal.ofBits .f32 0xFF800000#32 = ⊥ := by simp [Ideal.ofBits, Ideal.ieee]

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_real (x : ℝ) {y : ℝ} (hy : y ≠ 0) : Ideal.div (x : EReal) (y : EReal) = ((x / y : ℝ) : EReal) := by
  rw [Ideal.div_coe hy, ← EReal.coe_mul, mul_one_div]

theorem div_top (x : EReal) : Ideal.div x ⊤ = 0 := by simp [Ideal.div]

theorem zero_div_real {y : ℝ} (hy : y ≠ 0) : Ideal.div 0 (y : EReal) = 0 := by
  have := div_real 0 hy; simpa using this

/-! ## Norms -/

variable {n : ℕ}

/-- The norm, the clamped norm, the normalised row, the inner product. -/
def nrm (x : Fin n → EReal) : EReal := Ideal.sqrt (∑ c, x c * x c)
def nm (x : Fin n → EReal) : EReal := max (nrm x) (Ideal.ofBits .f32 0x2B8CBCCC#32)
def hat (x : Fin n → EReal) (c : Fin n) : EReal := Ideal.div (x c) (nm x)
def dot (x y : Fin n → EReal) : EReal := ∑ c, x c * y c

/-- The norm is zero or not below the clamp. -/
def Ok (x : Fin n → EReal) : Prop := nrm x = 0 ∨ Ideal.ofBits .f32 0x2B8CBCCC#32 ≤ nrm x

theorem mul_self_nonneg' (a : EReal) : 0 ≤ a * a := by
  rcases le_total 0 a with h | h
  · exact mul_nonneg h h
  · induction a with
    | bot => simp
    | top => simp
    | coe r => rw [← EReal.coe_mul]; exact_mod_cast mul_self_nonneg r

/-- A row with an infinite entry has the norm infinity. -/
theorem nrm_top (x : Fin n → EReal) (c : Fin n) (h : x c = ⊤ ∨ x c = ⊥) : nrm x = ⊤ := by
  have : ∑ c, x c * x c = ⊤ := by
    refine top_le_iff.mp ?_
    calc (⊤ : EReal) = x c * x c := by rcases h with h | h <;> simp [h]
      _ ≤ _ := Finset.single_le_sum (f := fun c => x c * x c) (fun i _ => mul_self_nonneg' _) (Finset.mem_univ c)
  unfold nrm; rw [this]; rfl

theorem nrm_real (r : Fin n → ℝ) : nrm (fun c => (r c : EReal)) = ((Real.sqrt (∑ c, r c * r c) : ℝ) : EReal) := by
  unfold nrm
  simp only [← EReal.coe_mul]
  rw [coe_sum, Ideal.sqrt_coe, if_neg (not_lt.mpr (Finset.sum_nonneg fun c _ => mul_self_nonneg _))]

/-- What a row under the condition is: its normalised row is real and of norm 0 or 1, and either its clamped norm is
    infinite and the normalised row zero, or it is real and the normalised row its quotients. -/
structure Row (x : Fin n → EReal) (u : Fin n → ℝ) : Prop where
  hat : ∀ c, hat x c = (u c : EReal)
  unit : ∑ c, u c * u c = 0 ∨ ∑ c, u c * u c = 1
  src : (nm x = ⊤ ∧ ∀ c, u c = 0) ∨ ∃ (r : Fin n → ℝ) (s : ℝ), 0 < s ∧ (∀ c, x c = (r c : EReal)) ∧ nm x = (s : EReal)
    ∧ ∀ c, u c = r c / s

theorem exists_row (x : Fin n → EReal) (h : Ok x) : ∃ u, Row x u := by
  by_cases hinf : ∃ c, x c = ⊤ ∨ x c = ⊥
  · obtain ⟨c, hc⟩ := hinf
    have ht : nm x = ⊤ := by unfold nm; rw [nrm_top x c hc]; exact top_sup_eq _
    refine ⟨fun _ => 0, fun c => ?_, .inl (by simp), .inl ⟨ht, fun _ => rfl⟩⟩
    unfold Cosine.hat; rw [ht, div_top]; rfl
  · have hr : ∀ c, x c = ((x c).toReal : EReal) := fun c =>
      (EReal.coe_toReal (fun h => hinf ⟨c, .inl h⟩) (fun h => hinf ⟨c, .inr h⟩)).symm
    obtain ⟨r, rfl⟩ : ∃ r : Fin n → ℝ, x = fun c => (r c : EReal) := ⟨_, funext hr⟩
    have hnn : 0 ≤ ∑ c, r c * r c := Finset.sum_nonneg fun c _ => mul_self_nonneg _
    have hn := nrm_real r
    have hm : nm (fun c => (r c : EReal)) = ((max (Real.sqrt (∑ c, r c * r c)) epsR : ℝ) : EReal) := by
      unfold nm; rw [hn, lit_eps]; exact (EReal.coe_strictMono.monotone.map_max).symm
    set s := max (Real.sqrt (∑ c, r c * r c)) epsR with hs
    have hpos : 0 < s := lt_max_of_lt_right epsR_pos
    refine ⟨fun c => r c / s, fun c => ?_, ?_, .inr ⟨r, s, hpos, fun _ => rfl, hm, fun _ => rfl⟩⟩
    · unfold Cosine.hat; rw [hm, div_real _ hpos.ne']
    · have hsum : ∑ c, r c / s * (r c / s) = (∑ c, r c * r c) / (s * s) := by
        rw [Finset.sum_div]; exact Finset.sum_congr rfl fun c _ => by rw [div_mul_div_comm]
      rw [hsum]
      unfold Ok at h
      rw [hn, lit_eps] at h
      rcases h with h | h
      · left
        have h0 : Real.sqrt (∑ c, r c * r c) = 0 := by exact_mod_cast h
        rw [(Real.sqrt_eq_zero hnn).mp h0, zero_div]
      · right
        have h1 : epsR ≤ Real.sqrt (∑ c, r c * r c) := by exact_mod_cast h
        have h2 : s = Real.sqrt (∑ c, r c * r c) := max_eq_left h1
        rw [div_eq_one_iff_eq (mul_pos hpos hpos).ne', h2, Real.mul_self_sqrt hnn]

/-- The normalised row of a row under the condition, in the reals. -/
def unitRow (x : Fin n → EReal) (c : Fin n) : ℝ := (hat x c).toReal

theorem row (x : Fin n → EReal) (h : Ok x) : Row x (unitRow x) := by
  obtain ⟨u, hu⟩ := exists_row x h
  have : unitRow x = u := funext fun c => by unfold unitRow; rw [hu.hat c, EReal.toReal_coe]
  rw [this]; exact hu

theorem eq_zero_of_sum (u : Fin n → ℝ) (h : ∑ c, u c * u c = 0) (c : Fin n) : u c = 0 :=
  mul_self_eq_zero.mp ((Finset.sum_eq_zero_iff_of_nonneg fun c _ => mul_self_nonneg (u c)).mp h c (Finset.mem_univ c))

/-- The cosine of two rows of norm 0 or 1, its divisor clamped, is their inner product. -/
theorem cos_unit (u w : Fin n → ℝ) (hu : ∑ c, u c * u c = 0 ∨ ∑ c, u c * u c = 1)
    (hw : ∑ c, w c * w c = 0 ∨ ∑ c, w c * w c = 1) :
    Ideal.div (dot (fun c => (u c : EReal)) (fun c => (w c : EReal)))
      (max (nrm (fun c => (u c : EReal)) * nrm (fun c => (w c : EReal))) (Ideal.ofBits .f32 0x322BCC77#32))
      = ((∑ c, u c * w c : ℝ) : EReal) := by
  have hd : dot (fun c => (u c : EReal)) (fun c => (w c : EReal)) = ((∑ c, u c * w c : ℝ) : EReal) := by
    unfold dot; simp only [← EReal.coe_mul]; rw [coe_sum]
  rw [hd, nrm_real, nrm_real, lit_small, ← EReal.coe_mul, ← EReal.coe_strictMono.monotone.map_max,
    div_real _ (lt_max_of_lt_right smallR_pos).ne']
  congr 1
  by_cases h : (∑ c, u c * u c = 1) ∧ (∑ c, w c * w c = 1)
  · rw [h.1, h.2, Real.sqrt_one, one_mul, max_eq_left smallR_le_one, div_one]
  · have : ∑ c, u c * w c = 0 := by
      refine Finset.sum_eq_zero fun c _ => ?_
      rcases hu with hu | hu
      · rw [eq_zero_of_sum u hu c, zero_mul]
      · rcases hw with hw | hw
        · rw [eq_zero_of_sum w hw c, mul_zero]
        · exact absurd ⟨hu, hw⟩ h
    rw [this, zero_div]

/-- The reference's cosine of two normalised rows. -/
theorem cos_hat {x y : Fin n → EReal} {u w : Fin n → ℝ} (hx : Row x u) (hy : Row y w) :
    Ideal.div (dot (hat x) (hat y)) (max (nrm (hat x) * nrm (hat y)) (Ideal.ofBits .f32 0x322BCC77#32))
      = ((∑ c, u c * w c : ℝ) : EReal) := by
  rw [funext hx.hat, funext hy.hat]; exact cos_unit u w hx.unit hy.unit

theorem top_mul_pos {s : ℝ} (hs : 0 < s) : (⊤ : EReal) * (s : EReal) = ⊤ := EReal.top_mul_coe_of_pos hs

/-- The clamped norm is infinite or a positive real. -/
theorem Row.nm_pos {x : Fin n → EReal} {u : Fin n → ℝ} (hx : Row x u) : nm x = ⊤ ∨ ∃ s : ℝ, 0 < s ∧ nm x = (s : EReal) := by
  rcases hx.src with ⟨h, -⟩ | ⟨_, s, hs, -, h, -⟩
  · exact .inl h
  · exact .inr ⟨s, hs, h⟩

/-- The kernel's cosine: the inner product of the rows over the product of their clamped norms. -/
theorem cos_raw {x y : Fin n → EReal} {u w : Fin n → ℝ} (hx : Row x u) (hy : Row y w) :
    Ideal.div (dot x y) (nm x * nm y) = ((∑ c, u c * w c : ℝ) : EReal) := by
  rcases hx.src with ⟨h, hu⟩ | ⟨r, s, hs, hr, h, hu⟩
  · have : nm x * nm y = ⊤ := by
      rw [h]; rcases hy.nm_pos with h' | ⟨s, hs, h'⟩ <;> rw [h']
      · rfl
      · exact top_mul_pos hs
    rw [this, div_top]; simp [hu]
  · rcases hy.src with ⟨h', hw⟩ | ⟨r', s', hs', hr', h', hw⟩
    · have : nm x * nm y = ⊤ := by rw [h, h', mul_comm]; exact top_mul_pos hs
      rw [this, div_top]; simp [hw]
    · have : dot x y = ((∑ c, r c * r' c : ℝ) : EReal) := by
        unfold dot; simp only [hr, hr', ← EReal.coe_mul]; rw [coe_sum]
      rw [this, h, h', ← EReal.coe_mul, div_real _ (mul_pos hs hs').ne', Finset.sum_div]
      congr 1
      exact Finset.sum_congr rfl fun c _ => by rw [hu, hw, div_mul_div_comm]

/-- The kernel's scaled cosine against a normalised row `w`. -/
theorem cos_half {x : Fin n → EReal} {u : Fin n → ℝ} (hx : Row x u) (w : Fin n → ℝ) :
    Ideal.div (∑ c, (w c : EReal) * x c) (nm x * Ideal.ofBits .f32 0x3D8F5C29#32)
      = (((∑ c, u c * w c) / tauR : ℝ) : EReal) := by
  rw [lit_tau]
  rcases hx.src with ⟨h, hu⟩ | ⟨r, s, hs, hr, h, hu⟩
  · rw [h, top_mul_pos tauR_pos, div_top]; simp [hu]
  · have : ∑ c, (w c : EReal) * x c = ((∑ c, w c * r c : ℝ) : EReal) := by
      simp only [hr, ← EReal.coe_mul]; rw [coe_sum]
    rw [this, h, ← EReal.coe_mul, div_real _ (mul_pos hs tauR_pos).ne', ← div_div, Finset.sum_div]
    congr 2
    exact Finset.sum_congr rfl fun c _ => by rw [hu]; ring

theorem exp_div_tau (a : ℝ) : Ideal.exp (Ideal.div (a : EReal) (Ideal.ofBits .f32 0x3D8F5C29#32))
    = ((Real.exp (a / tauR) : ℝ) : EReal) := by
  rw [lit_tau, div_real _ tauR_pos.ne', Ideal.exp_coe]

/-- The logarithm of a share. -/
theorem log_share {a d : ℝ} (ha : 0 < a) (hd : 0 < d) :
    Ideal.log (Ideal.div (a : EReal) ((d : EReal) + Ideal.ofBits .f32 0x322BCC77#32))
      = ((Real.log (a / (d + smallR)) : ℝ) : EReal) := by
  have hp : 0 < d + smallR := add_pos hd smallR_pos
  rw [lit_small, ← EReal.coe_add, div_real _ hp.ne', Ideal.log_coe, if_neg (not_le.mpr (div_pos ha hp))]

end Cert.Cosine

end
-- ==== Proof.Spec.lean ====
/- The loss as plain mathematics: classes by softmax, the chosen negatives of each class, and the two cosine losses. -/
module

public import proofs.«01_k».proof.Proof.Select
public import proofs.«01_k».proof.Proof.Cosine
public import Mathlib.Data.Prod.Lex
public import Mathlib.Logic.Equiv.Fin.Basic
public import Mathlib.Data.Finset.Fold

@[expose] public section

noncomputable section

namespace Cert.Spec

open Idealize.ShloMosaic

/-- The greatest of four. -/
def top (l : Fin 4 → EReal) : EReal := Finset.univ.sup l

/-- The softmax of four logits. -/
def prob (l : Fin 4 → EReal) (c : Fin 4) : EReal :=
  Ideal.div (Ideal.exp (l c - top l)) (∑ d, Ideal.exp (l d - top l))

/-- Where the greatest is first reached. -/
def first (p : Fin 4 → EReal) : Fin 4 :=
  if p 0 = top p then 0 else if p 1 = top p then 1 else if p 2 = top p then 2 else 3

def cls (l : Fin 4 → EReal) : Fin 4 := first (prob l)
def best (l : Fin 4 → EReal) : EReal := top (prob l)

theorem le_top (p : Fin 4 → EReal) (c : Fin 4) : p c ≤ top p := Finset.le_sup (f := p) (Finset.mem_univ c)

theorem first_spec (p : Fin 4 → EReal) : p (first p) = top p ∧ ∀ c, p c = top p → first p ≤ c := by
  obtain ⟨d, -, hd⟩ := Finset.exists_mem_eq_sup Finset.univ Finset.univ_nonempty p
  have hd : p d = top p := hd.symm
  unfold first
  refine ⟨?_, fun c hc => ?_⟩
  · split
    · assumption
    split
    · assumption
    split
    · assumption
    · fin_cases d <;> simp_all
  · fin_cases c <;> simp_all <;> split_ifs <;> decide

/-- The least index, as a number, at which the greatest is reached. -/
theorem inf_first (p : Fin 4 → EReal) :
    (Finset.univ.inf fun c : Fin 4 => if p c = top p then ((c.val : ℝ) : EReal) else ((4 : ℝ) : EReal))
      = ((first p).val : ℝ) := by
  obtain ⟨h1, h2⟩ := first_spec p
  refine le_antisymm ((Finset.inf_le (Finset.mem_univ (first p))).trans_eq (if_pos h1)) (Finset.le_inf fun c _ => ?_)
  split
  · rename_i h
    exact EReal.coe_le_coe_iff.mpr (by exact_mod_cast h2 c h)
  · exact EReal.coe_le_coe_iff.mpr (by have := (first p).isLt; exact_mod_cast this.le)

section pick
variable {α β : Type*} [LinearOrder β] (φ : α → β)

/-- Of two, the one with the greater key. -/
def pick (a b : α) : α := if φ b < φ a then a else b

theorem key_pick (a b : α) : φ (pick φ a b) = max (φ a) (φ b) := by
  unfold pick
  split
  · rename_i h; rw [max_eq_left h.le]
  · rename_i h; rw [max_eq_right (not_lt.mp h)]

theorem pick_comm (h : Function.Injective φ) : Std.Commutative (pick φ) :=
  ⟨fun a b => h (by rw [key_pick φ, key_pick φ, max_comm])⟩

theorem pick_assoc (h : Function.Injective φ) : Std.Associative (pick φ) :=
  ⟨fun a b c => h (by simp only [key_pick φ, max_assoc])⟩

/-- What a fold picks is the start or one of the members, and no member has a greater key. -/
theorem fold_pick {ι : Type*} [Std.Commutative (pick φ)] [Std.Associative (pick φ)] (s : Finset ι) (g : ι → α) (a : α) :
    (s.fold (pick φ) a g = a ∨ ∃ i ∈ s, s.fold (pick φ) a g = g i) ∧ ∀ i ∈ s, φ (g i) ≤ φ (s.fold (pick φ) a g) := by
  classical
  induction s using Finset.induction_on with
  | empty => simp
  | insert i s hi ih =>
    rw [Finset.fold_insert hi]
    refine ⟨?_, fun j hj => ?_⟩
    · by_cases h : φ (s.fold (pick φ) a g) < φ (g i)
      · exact .inr ⟨i, Finset.mem_insert_self _ _, (if_pos h : pick φ (g i) _ = g i)⟩
      · have : pick φ (g i) (s.fold (pick φ) a g) = s.fold (pick φ) a g := if_neg h
        rw [this]
        rcases ih.1 with h | ⟨j, hj, h⟩
        · exact .inl h
        · exact .inr ⟨j, Finset.mem_insert_of_mem hj, h⟩
    · rw [key_pick φ]
      rcases Finset.mem_insert.mp hj with rfl | hj
      · exact le_max_left _ _
      · exact (ih.2 j hj).trans (le_max_right _ _)

end pick

/-- The greater value first, and the lesser index. -/
def key (a : EReal × BitVec 32) : EReal ×ₗ ℤᵒᵈ := toLex (a.1, OrderDual.toDual a.2.toInt)

theorem key_injective : Function.Injective key := by
  rintro ⟨a, b⟩ ⟨a', b'⟩ h
  have h := toLex.injective h
  simp only [Prod.mk.injEq, EmbeddingLike.apply_eq_iff_eq] at h
  exact Prod.ext h.1 (BitVec.eq_of_toInt_eq h.2)

theorem key_lt (a b : EReal × BitVec 32) : key b < key a ↔ b.1 < a.1 ∨ (b.1 = a.1 ∧ a.2.toInt < b.2.toInt) := by
  unfold key
  rw [Prod.Lex.toLex_lt_toLex]
  rfl

theorem key_le (a b : EReal × BitVec 32) : key a ≤ key b ↔ a.1 < b.1 ∨ (a.1 = b.1 ∧ b.2.toInt ≤ a.2.toInt) := by
  unfold key
  rw [Prod.Lex.toLex_le_toLex]
  rfl

/-- The index picked out of four values, from the start `(⊥, 0)`, is the first at which the greatest is reached. -/
theorem fold_first (p : Fin 4 → EReal) [Std.Commutative (pick key)] [Std.Associative (pick key)] :
    (Finset.univ.fold (pick key) (⊥, 0#32) fun c : Fin 4 => (p c, BitVec.ofNat 32 c.val)).2 = BitVec.ofNat 32 (first p).val := by
  obtain ⟨h1, h2⟩ := fold_pick key (Finset.univ : Finset (Fin 4)) (fun c => (p c, BitVec.ofNat 32 c.val)) (⊥, 0#32)
  obtain ⟨f1, f2⟩ := first_spec p
  generalize hr : Finset.univ.fold (pick key) (⊥, 0#32) (fun c : Fin 4 => (p c, BitVec.ofNat 32 c.val)) = r at h1 h2 ⊢
  have hint : ∀ c : Fin 4, (BitVec.ofNat 32 c.val).toInt = c.val := by decide
  rcases h1 with rfl | ⟨c, -, rfl⟩
  · have h := (key_le _ _).mp (h2 0 (Finset.mem_univ _))
    have hb : p 0 = ⊥ := by
      rcases h with h | h
      · exact absurd h not_lt_bot
      · exact h.1
    have ht : ∀ c, p c = ⊥ := fun c => by
      rcases (key_le _ _).mp (h2 c (Finset.mem_univ _)) with h | h
      · exact absurd h not_lt_bot
      · exact h.1
    have : top p = ⊥ := by rw [← f1, ht]
    have : first p = 0 := by unfold first; rw [if_pos (by rw [hb, this])]
    rw [this]; rfl
  · have hc : p c = top p := by
      refine le_antisymm (le_top p c) ?_
      rw [← f1]
      rcases (key_le _ _).mp (h2 (first p) (Finset.mem_univ _)) with h | h
      · exact le_of_lt h
      · exact le_of_eq h.1
    have hle := f2 c hc
    rcases (key_le _ _).mp (h2 (first p) (Finset.mem_univ _)) with h | h
    · rw [f1, hc] at h; exact absurd h (lt_irrefl _)
    · have h := h.2
      rw [hint, hint] at h
      have : c = first p := le_antisymm (by exact_mod_cast h) hle
      rw [← this]

/-- The value of token `j` as a negative for class `c`. -/
def val (M : Fin 4096 → Fin 4 → EReal) (c : Fin 4) (j : Fin 4096) : EReal := if cls (M j) ≠ c then best (M j) else 0

/-- The fifty negatives chosen for class `c`. -/
def picked (M : Fin 4096 → Fin 4 → EReal) (c : Fin 4) : Finset (Fin 4096) := Select.chosen (val M c) 50

/-- The similarity of two unit rows, sharpened. -/
def sim (u w : Fin 256 → ℝ) : ℝ := Real.exp ((∑ c, u c * w c) / Cosine.tauR)

theorem sim_pos (u w : Fin 256 → ℝ) : 0 < sim u w := Real.exp_pos _

/-- The positive pair's share, and its logarithm. -/
def share (a : ℝ) (u : Fin 256 → ℝ) (g : Fin 4096 → Fin 256 → ℝ) (S : Finset (Fin 4096)) : ℝ :=
  Real.log (a / (∑ j ∈ S, sim u (g j) + a + Cosine.smallR))

/-- One token's loss. -/
def loss (u p : Fin 256 → ℝ) (g : Fin 4096 → Fin 256 → ℝ) (S : Finset (Fin 4096)) : ℝ :=
  - share (sim u p) u g S - share (sim u p) p g S

/-- The mean loss. -/
def total (u p g : Fin 4096 → Fin 256 → ℝ) (L M : Fin 4096 → Fin 4 → EReal) : ℝ :=
  (∑ i, loss (u i) (p i) g (picked M (cls (L i)))) / 4096

/-- A sum over `a * b` places as `a` sums over `b`. -/
theorem sum_split {A : Type*} [AddCommMonoid A] (a b n : ℕ) (h : a * b = n) (f : Fin n → A) :
    ∑ i, f i = ∑ x : Fin a, ∑ y : Fin b, f ⟨x.val * b + y.val, by
      have hx := x.isLt; have hy := y.isLt
      calc x.val * b + y.val < x.val * b + b := by omega
        _ = (x.val + 1) * b := by ring
        _ ≤ a * b := Nat.mul_le_mul_right b hx
        _ = n := h⟩ := by
  subst h
  rw [← Fintype.sum_prod_type']
  refine (Fintype.sum_equiv finProdFinEquiv _ _ fun x => ?_).symm
  congr 1
  ext
  simp [finProdFinEquiv, Nat.mul_comm, Nat.add_comm]

end Cert.Spec

end
-- ==== Proof.KerVal.lean ====
/- The kernel's blocks read at a place: the classes, the threshold of each class and the counts up to each place. -/
module

public import proofs.«01_k».proof.Proof.Shape
public import proofs.«01_k».proof.Proof.Spec
public import Idealize.ShloMosaic.Lib.Pointwise

@[expose] public section

noncomputable section

namespace Cert.KernelIdeal.Run

open Cert.KernelIdeal.Gen
open Idealize.ShloMosaic Idealize.ShloMosaic.TcCoe
open Cert.Cosine Cert.Spec

/-- Token `j`'s entry of a per-class array. -/
def at3 {α : Type} (v : S4x32x128.Idx → α) (c : Fin 4) (j : Fin 4096) : α :=
  v (ix3 c ⟨j.val / 128, by omega⟩ ⟨j.val % 128, by omega⟩)

/-- The token at a row and lane. -/
def tok (s : Fin 32) (l : Fin 128) : Fin 4096 := ⟨s.val * 128 + l.val, by omega⟩

theorem at3_tok {α : Type} (v : S4x32x128.Idx → α) (c : Fin 4) (s : Fin 32) (l : Fin 128) :
    at3 v c (tok s l) = v (ix3 c s l) := by
  unfold at3 tok
  have h1 : (s.val * 128 + l.val) / 128 = s.val := by omega
  have h2 : (s.val * 128 + l.val) % 128 = l.val := by omega
  simp only [h1, h2]

theorem sum_tok {A : Type*} [AddCommMonoid A] (f : Fin 4096 → A) : ∑ s, ∑ l, f (tok s l) = ∑ j, f j :=
  (sum_split 32 128 4096 rfl f).symm

/-- A bit as a real number. -/
def bit (b : BitVec 1) : ℝ := if b = 1#1 then 1 else 0

theorem num_bit (b : BitVec 1) : FloatOps.sitofp (F := Ideal) .f32 (BitVec.setWidth 32 b) = ((bit b : ℝ) : EReal) := by
  have h : b = 0#1 ∨ b = 1#1 := by revert b; decide
  rcases h with rfl | rfl
  · show (((0 : ℤ) : ℝ) : EReal) = _
    simp [bit]
  · show (((1 : ℤ) : ℝ) : EReal) = _
    simp [bit]

theorem toInt_nat (n : ℕ) (h : n < 8192) : (BitVec.ofNat 32 n).toInt = n := by
  rw [BitVec.toInt_eq_toNat_of_lt (by rw [BitVec.toNat_ofNat]; omega), BitVec.toNat_ofNat, Nat.mod_eq_of_lt (by omega)]

theorem num_nat (n : ℕ) (h : n < 8192) : FloatOps.sitofp (F := Ideal) .f32 (BitVec.ofNat 32 n) = ((n : ℝ) : EReal) := by
  show (((BitVec.ofNat 32 n).toInt : ℝ) : EReal) = _
  rw [toInt_nat n h]; norm_cast

theorem bit_ofBool (p : Prop) [Decidable p] : bit (BitVec.ofBool (decide p)) = if p then 1 else 0 := by
  by_cases h : p <;> simp [bit, h]

theorem ofBool_iff (p : Prop) [Decidable p] : BitVec.ofBool (decide p) = 1#1 ↔ p := by
  by_cases h : p <;> simp [h]

theorem fold_sup {ι : Type*} (s : Finset ι) (f : ι → EReal) : s.fold max ⊥ f = s.sup f := rfl
theorem fold_inf {ι : Type*} (s : Finset ι) (f : ι → EReal) : s.fold min ⊤ f = s.inf f := rfl

/-! ## The classes -/

theorem smB_at (x : FVec Ideal S4x4096 .f32) (c : Fin 4) (l : Fin 4096) :
    smB x (ix2 c l) = prob (fun d => x (ix2 d l)) c := by
  pointwise [smB, fill]
  simp only [lit_bot, fold_sup]
  rfl

theorem pmB_at (x : FVec Ideal S4x4096 .f32) (l : Fin 4096) :
    pmB x (ix2 0 l) = top fun d => x (ix2 d l) := by
  pointwise [pmB, fill]
  simp only [lit_bot, fold_sup]
  rfl

theorem segB_at (x : FVec Ideal S4x4096 .f32) (l : Fin 4096) :
    segB x (ix2 0 l) = (((first fun d => x (ix2 d l)).val : ℝ) : EReal) := by
  rw [← inf_first]
  pointwise [segB, pmB, clsB, fill]
  simp only [lit_bot, lit_top, lit_4, fold_sup, fold_inf]
  congr 1
  funext c
  rw [num_nat _ (by omega)]
  rfl

/-- The logits of token `j`. -/
def row4 (x : FVec Ideal S4x4096 .f32) (j : Fin 4096) (d : Fin 4) : EReal := x (ix2 d j)

theorem cls_at (x : FVec Ideal S4x4096 .f32) (l : Fin 4096) :
    segB (smB x) (ix2 0 l) = (((cls (row4 x l)).val : ℝ) : EReal) := by
  rw [segB_at]
  simp only [smB_at]
  rfl

theorem valT_at (x : FVec Ideal S4x4096 .f32) (c : Fin 4) (j : Fin 4096) :
    at3 (valT (smB x)) c j = val (row4 x) c j := by
  unfold at3
  pointwise [valT, valB, clsB, fill]
  rw [cls_at, pmB_at, num_nat _ (by omega)]
  simp only [smB_at]
  unfold val
  have : (((cls (row4 x j)).val : ℝ) : EReal) ≠ ((c.val : ℝ) : EReal) ↔ cls (row4 x j) ≠ c := by
    rw [Ne, Ne, EReal.coe_eq_coe_iff, Nat.cast_inj, Fin.val_inj]
  simp only [this]
  rfl

/-! ## The threshold -/

theorem cntB_at (b : IVec S4x32x128 1) (c : Fin 4) :
    cntB (F := Ideal) b (ix3 c 0 0) = (((Finset.univ.filter fun j => at3 b c j = 1#1).card : ℝ) : EReal) := by
  pointwise [cntB, num, fill]
  simp only [num_bit, coe_sum]
  congr 1
  have := sum_tok fun j => bit (at3 b c j)
  simp only [at3_tok] at this
  rw [this]
  simp only [bit, Finset.sum_boole]

theorem above_eq (v : FVec Ideal S4x32x128 .f32) (t : FVec Ideal S4x1x1 .f32) (c : Fin 4) :
    cntB (F := Ideal) (cmpf .ogt v (broadcastTo S4x32x128 t broadcasts_S4x1x1_S4x32x128)) (ix3 c 0 0)
      = ((Select.above (at3 v c) (t (ix3 c 0 0)) : ℝ) : EReal) := by
  rw [cntB_at]
  unfold Select.above
  congr 4
  ext j
  unfold at3
  pointwise []
  rw [ofBool_iff]

theorem atLeast_eq (v : FVec Ideal S4x32x128 .f32) (t : FVec Ideal S4x1x1 .f32) (c : Fin 4) :
    cntB (F := Ideal) (cmpf .oge v (broadcastTo S4x32x128 t broadcasts_S4x1x1_S4x32x128)) (ix3 c 0 0)
      = ((Select.atLeast (at3 v c) (t (ix3 c 0 0)) : ℝ) : EReal) := by
  rw [cntB_at]
  unfold Select.atLeast
  congr 4
  ext j
  unfold at3
  pointwise []
  rw [ofBool_iff]

theorem roundB_at (v : FVec Ideal S4x32x128 .f32) (t : FVec Ideal S4x1x1 .f32) (c : Fin 4) :
    roundB v t (ix3 c 0 0) = Select.step (at3 v c) 50 (t (ix3 c 0 0)) := by
  pointwise [roundB, fill]
  rw [atLeast_eq, lit_50]
  have : ((50 : ℝ) : EReal) ≤ ((Select.atLeast (at3 v c) (t (ix3 c 0 0)) : ℝ) : EReal)
      ↔ 50 ≤ Select.atLeast (at3 v c) (t (ix3 c 0 0)) := by
    rw [EReal.coe_le_coe_iff]; exact_mod_cast Iff.rfl
  simp only [this, lit_bot, fold_sup]
  unfold Select.step
  refine if_congr Iff.rfl rfl ?_
  unfold Select.below
  refine le_antisymm (Finset.sup_le fun x _ => ?_) (Finset.sup_le fun j _ => ?_)
  · rw [← at3_tok v]
    exact Finset.le_sup (f := fun i => if at3 v c i < t (ix3 c 0 0) then at3 v c i else ⊥) (Finset.mem_univ (tok x.1 x.2))
  · exact Finset.le_sup (f := fun x : Fin 32 × Fin 128 => if v (ix3 c x.1 x.2) < t (ix3 c 0 0) then v (ix3 c x.1 x.2) else ⊥)
      (Finset.mem_univ (⟨j.val / 128, by omega⟩, ⟨j.val % 128, by omega⟩))

theorem thrB_at (v : FVec Ideal S4x32x128 .f32) (c : Fin 4) :
    Select.above (at3 v c) (thrB v (ix3 c 0 0)) < 50 ∧ 50 ≤ Select.atLeast (at3 v c) (thrB v (ix3 c 0 0)) := by
  have key : ∀ {n : ℕ} (l : List (Fin n)) (t : FVec Ideal S4x1x1 .f32),
      l.foldl (fun acc _ => roundB v acc) t (ix3 c 0 0)
        = l.foldl (fun t _ => Select.step (at3 v c) 50 t) (t (ix3 c 0 0)) := by
    intro n l
    induction l with
    | nil => intro t; rfl
    | cons a l ih => intro t; rw [List.foldl_cons, List.foldl_cons, ih, roundB_at]
  have h0 : (fill S4x1x1 0x7F800000#32 : FVec Ideal S4x1x1 .f32) (ix3 c 0 0) = ⊤ := lit_top
  unfold thrB
  rw [Scf.fold_eq, key, h0]
  exact Select.search_spec (at3 v c) 50 (by decide) (by decide) _ (by rw [List.length_finRange]; rfl)

end Cert.KernelIdeal.Run

end
-- ==== Proof.KerPick.lean ====
/- The kernel's choice of negatives: the counts up to each place, the chosen tokens and their rows. -/
module

public import proofs.«01_k».proof.Proof.KerVal

@[expose] public section

noncomputable section

namespace Cert.KernelIdeal.Run

open Cert.KernelIdeal.Gen
open Idealize.ShloMosaic Idealize.ShloMosaic.TcCoe
open Cert.Cosine Cert.Spec

theorem andi_iff (a b : BitVec 1) : IntOp.andi a b = 1#1 ↔ a = 1#1 ∧ b = 1#1 := by revert a b; decide
theorem ori_iff (a b : BitVec 1) : IntOp.ori a b = 1#1 ↔ a = 1#1 ∨ b = 1#1 := by revert a b; decide
theorem select_if {α : Type} (b : BitVec 1) (P : Prop) [Decidable P] (h : b = 1#1 ↔ P) (x y : α) :
    Scalar.select b x y = if P then x else y := if_congr h rfl rfl
theorem sle_iff (x y : BitVec 32) : IntOp.cmpi .sle x y = 1#1 ↔ x.toInt ≤ y.toInt := by
  simp only [IntOp.cmpi, BitVec.sle_eq_decide, ofBool_iff]
theorem slt_iff (x y : BitVec 32) : IntOp.cmpi .slt x y = 1#1 ↔ x.toInt < y.toInt := by
  simp only [IntOp.cmpi, BitVec.slt_eq_decide, ofBool_iff]
theorem eq_iff (x y : BitVec 32) : IntOp.cmpi .eq x y = 1#1 ↔ x = y := by
  have : (x == y) = decide (x = y) := rfl
  simp only [IntOp.cmpi, this, ofBool_iff]

theorem upperB_at (i j : Fin 128) : upperB (F := Ideal) (ix2 i j) = (((if i ≤ j then 1 else 0 : ℝ)) : EReal) := by
  pointwise [upperB, k0_pay12, k0_pay11]
  rw [num_bit]
  congr 1
  unfold bit
  refine if_congr ?_ rfl rfl
  rw [sle_iff, toInt_nat _ (by omega), toInt_nat _ (by omega)]
  exact_mod_cast Iff.rfl

/-- The kernel's floor division by 32. -/
def floor32 (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 32#32 0#32)) (Scalar.extui (Scalar.cmpi .slt 32#32 0#32))))
      (IntOp.cmpi .ne (IntOp.remsi .vector x 32#32) 0#32))
    (IntOp.subi (IntOp.divsi .vector x 32#32) 1#32) (IntOp.divsi .vector x 32#32)

theorem floor32_nat : ∀ n : Fin 128, floor32 (BitVec.ofNat 32 n.val) = BitVec.ofNat 32 (n.val / 32) := by
  decide +kernel

theorem earlierB_at (i j : Fin 128) :
    earlierB (F := Ideal) (ix2 i j) = (((if j.val / 32 = i.val / 32 ∧ j < i then 1 else 0 : ℝ)) : EReal) := by
  pointwise [earlierB, num, k0_pay13, k0_pay14, k0_pay15, k0_pay16]
  rw [num_bit]
  congr 1
  unfold bit
  refine if_congr ?_ rfl rfl
  show IntOp.andi (IntOp.cmpi .eq (floor32 (BitVec.ofNat 32 j.val)) (floor32 (BitVec.ofNat 32 i.val))) _ = 1#1 ↔ _
  rw [andi_iff, eq_iff, floor32_nat, floor32_nat, slt_iff, toInt_nat _ (by omega), toInt_nat _ (by omega)]
  refine and_congr ⟨fun h => ?_, fun h => by rw [h]⟩ (by exact_mod_cast Iff.rfl)
  have := congrArg BitVec.toInt h
  rw [toInt_nat _ (by omega), toInt_nat _ (by omega)] at this
  exact_mod_cast this

/-- The count, up to token `j`, of a class's mask. -/
theorem prefB_at (b : IVec S4x32x128 1) (c : Fin 4) (j : Fin 4096) :
    at3 (prefB (F := Ideal) b) c j = (((Finset.univ.filter fun i => at3 b c i = 1#1 ∧ i ≤ j).card : ℝ) : EReal) := by
  have key : ∀ (s : Fin 32) (l : Fin 128), prefB (F := Ideal) b (ix3 c s l)
      = ((∑ x : Fin 128, bit (b (ix3 c s x)) * (if x ≤ l then 1 else 0)
        + ∑ x : Fin 128, (if x.val / 32 = (c.val * 32 + s.val) / 32 ∧ x < (⟨c.val * 32 + s.val, by omega⟩ : Fin 128) then 1 else 0)
          * ∑ y : Fin 128, bit (b (ix3 ⟨x.val / 32, by omega⟩ ⟨x.val % 32, by omega⟩ y)) * (if y ≤ 127 then 1 else 0) : ℝ) : EReal) := by
    intro s l
    pointwise [prefB, num, fill]
    simp only [num_bit, upperB_at, earlierB_at, ← EReal.coe_mul, coe_sum, ← EReal.coe_add]
  obtain ⟨s, l, rfl⟩ : ∃ s l, j = tok s l := ⟨⟨j.val / 128, by omega⟩, ⟨j.val % 128, by omega⟩, Fin.ext (by simp only [tok]; omega)⟩
  rw [at3_tok, key, ← Finset.sum_boole, ← sum_tok]
  congr 1
  generalize hT : (∑ x : Fin 128, bit (b (ix3 c s x)) * (if x ≤ l then 1 else 0) : ℝ) = T
  rw [sum_split 4 32 128 rfl, Finset.sum_eq_single c]
  · rw [show T = ∑ s' : Fin 32, if s' = s then T else 0 by simp, ← Finset.sum_add_distrib]
    refine Finset.sum_congr rfl fun s' _ => ?_
    have h1 : (c.val * 32 + s'.val) / 32 = c.val := by omega
    have h2 : (c.val * 32 + s'.val) % 32 = s'.val := by omega
    have h3 : (c.val * 32 + s.val) / 32 = c.val := by omega
    simp only [at3_tok]
    simp only [h1, h2, h3, Fin.mk_lt_mk, Fin.eta, true_and, Nat.add_lt_add_iff_left, Fin.val_fin_lt, tok, Fin.mk_le_mk]
    rcases lt_trichotomy s' s with h | rfl | h
    · rw [if_neg h.ne, if_pos h, zero_add, one_mul]
      refine Finset.sum_congr rfl fun y _ => ?_
      have hy : y ≤ 127 := Fin.le_last y
      have : s'.val * 128 + y.val ≤ s.val * 128 + l.val := by have : s'.val < s.val := h; omega
      simp only [hy, this, if_true, mul_one, and_true, bit]
    · rw [if_pos rfl, if_neg (lt_irrefl _), zero_mul, add_zero, ← hT]
      refine Finset.sum_congr rfl fun y _ => ?_
      have : s'.val * 128 + y.val ≤ s'.val * 128 + l.val ↔ y ≤ l := by rw [Nat.add_le_add_iff_left]; rfl
      simp only [this, bit, mul_ite, mul_one, mul_zero]
      split_ifs <;> simp_all
    · rw [if_neg h.ne', if_neg h.not_gt, zero_mul, add_zero]
      symm
      refine Finset.sum_eq_zero fun y _ => if_neg fun hh => ?_
      have : s.val < s'.val := h
      omega
  · intro c' _ hc
    refine Finset.sum_eq_zero fun s' _ => ?_
    rw [if_neg, zero_mul]
    rintro ⟨h, -⟩
    exact hc (Fin.ext (by simp only at h; omega))
  · intro h; exact absurd (Finset.mem_univ c) h

theorem selB_at (v : FVec Ideal S4x32x128 .f32) (t : FVec Ideal S4x1x1 .f32) (c : Fin 4) (j : Fin 4096) :
    at3 (selB v t) c j = 1#1 ↔ t (ix3 c 0 0) < at3 v c j ∨ (at3 v c j = t (ix3 c 0 0)
      ∧ Select.above (at3 v c) (t (ix3 c 0 0)) + Select.tiesBefore (at3 v c) (t (ix3 c 0 0)) j < 50) := by
  have hp := prefB_at (cmpf .oeq v (broadcastTo S4x32x128 t broadcasts_S4x1x1_S4x32x128)) c j
  have he : ∀ i, at3 (cmpf .oeq v (broadcastTo S4x32x128 t broadcasts_S4x1x1_S4x32x128)) c i = 1#1 ↔ at3 v c i = t (ix3 c 0 0) := by
    intro i
    unfold at3
    pointwise []
    rw [ofBool_iff]
  simp only [he] at hp
  unfold at3 at hp ⊢
  pointwise [selB, num, fill]
  rw [ori_iff, andi_iff, ofBool_iff, ofBool_iff, ofBool_iff, hp, above_eq, num_bit, lit_50, bit_ofBool]
  refine or_congr Iff.rfl (and_congr_right fun h => ?_)
  rw [if_pos h, ← EReal.coe_sub, ← EReal.coe_sub, EReal.coe_lt_coe_iff]
  have hc : (Finset.univ.filter fun i => at3 v c i = t (ix3 c 0 0) ∧ i ≤ j).card
      = Select.tiesBefore (at3 v c) (t (ix3 c 0 0)) j + 1 := by
    have : (Finset.univ.filter fun i => at3 v c i = t (ix3 c 0 0) ∧ i ≤ j)
        = insert j (Finset.univ.filter fun i => at3 v c i = t (ix3 c 0 0) ∧ i < j) := by
      ext i
      simp only [Finset.mem_filter, Finset.mem_univ, true_and, Finset.mem_insert, le_iff_eq_or_lt]
      constructor
      · rintro ⟨a, rfl | b⟩
        · exact .inl rfl
        · exact .inr ⟨a, b⟩
      · rintro (rfl | ⟨a, b⟩)
        · exact ⟨h, .inl rfl⟩
        · exact ⟨a, .inr b⟩
    rw [this, Finset.card_insert_of_notMem (by simp)]
    rfl
  unfold at3 at hc
  rw [hc]
  push_cast
  constructor
  · intro h
    have h : ((Select.above (at3 v c) (t (ix3 c 0 0)) + Select.tiesBefore (at3 v c) (t (ix3 c 0 0)) j : ℕ) : ℝ) < (50 : ℕ) := by
      push_cast; unfold at3; unfold at3 at h; linarith
    exact_mod_cast h
  · intro h
    have h : ((Select.above (at3 v c) (t (ix3 c 0 0)) + Select.tiesBefore (at3 v c) (t (ix3 c 0 0)) j : ℕ) : ℝ) < (50 : ℕ) := by
      exact_mod_cast h
    push_cast at h; unfold at3; unfold at3 at h; linarith

/-- With the threshold found by the search, the set ones are the fifty chosen. -/
theorem sel_iff (v : FVec Ideal S4x32x128 .f32) (c : Fin 4) (j : Fin 4096) :
    at3 (selB v (thrB v)) c j = 1#1 ↔ j ∈ Select.chosen (at3 v c) 50 := by
  obtain ⟨h1, h2⟩ := thrB_at v c
  rw [selB_at, Select.mem_chosen _ _ _ h1 h2]

theorem rankB_at (sel : IVec S4x32x128 1) (c : Fin 4) (S : Finset (Fin 4096)) (hS : ∀ j, at3 sel c j = 1#1 ↔ j ∈ S) (j : Fin 4096) :
    at3 (rankB (F := Ideal) sel) c j = ((if j ∈ S then (Select.rank S j : ℝ) else 0 : ℝ) : EReal) := by
  have hp := prefB_at sel c j
  simp only [hS] at hp
  have h := hS j
  unfold at3 at hp h ⊢
  pointwise [rankB, fill]
  rw [hp, select_if _ _ h]
  split
  · congr 3
    ext i; simp
  · simp

end Cert.KernelIdeal.Run

end
-- ==== Proof.KerRows.lean ====
/- The kernel's rows and losses read at a place, and the kernel's value. -/
module

public import proofs.«01_k».proof.Proof.KerPick

@[expose] public section

noncomputable section

namespace Cert.KernelIdeal.Run

open Cert.KernelIdeal.Gen
open Idealize.ShloMosaic Idealize.ShloMosaic.TcCoe
open Cert.Cosine Cert.Spec

/-! ## The rows -/

/-- Token `j`'s row of features. -/
def feat (X : Vec Ideal S4x256x1024 .f32) (j : Fin 4096) (c : Fin 256) : EReal :=
  X (ix3 ⟨j.val / 1024, by omega⟩ c ⟨j.val % 1024, by omega⟩)

theorem slab_at (X : Vec Ideal S4x256x1024 .f32) (b : Fin 4) (c : Fin 256) (l : Fin 1024) :
    slab X b (ix3 0 c l) = feat X ⟨b.val * 1024 + l.val, by omega⟩ c := by
  unfold slab feat
  congr 1
  funext d
  match d with
  | ⟨0, _⟩ => exact Fin.ext (by show b.val = (b.val * 1024 + l.val) / 1024; omega)
  | ⟨1, _⟩ => rfl
  | ⟨2, _⟩ => exact Fin.ext (by show l.val = (b.val * 1024 + l.val) % 1024; omega)

/-- A row of marks with one token marked picks out that token's row. -/
theorem pickB_at (G : Vec Ideal S4x256x1024 .f32) (r : FVec Ideal S1x32x128 .f32) (k : Fin 64) (e : Fin 4096)
    (he : ∀ j : Fin 4096, r (ix3 0 ⟨j.val / 128, by omega⟩ ⟨j.val % 128, by omega⟩) = (((k.val : ℝ) + 1 : ℝ) : EReal) ↔ j = e)
    (c : Fin 256) : pickB (hotB r) (slab G 0) (slab G 1) (slab G 2) (slab G 3) (ix2 k c) = feat G e c := by
  have hk : FloatOps.sitofp (F := Ideal) .f32 (BitVec.ofNat 32 k.val) + 1 = (((k.val : ℝ) + 1 : ℝ) : EReal) := by
    rw [num_nat _ (by omega)]; norm_cast
  have hb : ∀ (j : Fin 4096) (s : Fin 32) (l : Fin 128), s.val = j.val / 128 → l.val = j.val % 128 →
      FloatOps.sitofp (F := Ideal) .f32 (BitVec.setWidth 32 (BitVec.ofBool (decide (r (ix3 0 s l) = (((k.val : ℝ) + 1 : ℝ) : EReal)))))
        = if j = e then 1 else 0 := by
    intro j s l hs hl
    have : r (ix3 0 s l) = (((k.val : ℝ) + 1 : ℝ) : EReal) ↔ j = e := by
      rw [← he j]; congr! 4 <;> exact Fin.ext (by assumption)
    rw [num_bit, bit_ofBool]
    by_cases h : j = e
    · rw [if_pos (this.mpr h), if_pos h]; rfl
    · rw [if_neg (fun h' => h (this.mp h')), if_neg h]; rfl
  have hr : feat G e c = ∑ j : Fin 4096, (if j = e then 1 else 0) * feat G j c := by simp
  rw [hr, sum_split 4 1024 4096 rfl, Fin.sum_univ_four]
  pointwise [pickB, hotB, fill, num, k0_pay18]
  simp only [hk, slab_at]
  refine congrArg₂ (· + ·) (congrArg₂ (· + ·) (congrArg₂ (· + ·) ?_ ?_) ?_) ?_ <;> refine Finset.sum_congr rfl fun x _ => ?_
  · rw [hb ⟨0 * 1024 + x.val, by omega⟩ _ _ (by simp only; omega) (by simp only; omega)]
    simp only [Nat.zero_mul, Nat.zero_add, Fin.val_zero]
  · rw [hb ⟨1 * 1024 + x.val, by omega⟩ _ _ (by simp only <;> omega) (by simp only <;> omega)]; rfl
  · rw [hb ⟨2 * 1024 + x.val, by omega⟩ _ _ (by simp only <;> omega) (by simp only <;> omega)]; rfl
  · rw [hb ⟨3 * 1024 + x.val, by omega⟩ _ _ (by simp only <;> omega) (by simp only <;> omega)]; rfl

/-- Row `k` of class `c`'s block, for `k` below fifty: the row of the class's `k`-th chosen token. -/
theorem rowsB_at (G : Vec Ideal S4x256x1024 .f32) (R : FVec Ideal S4x32x128 .f32) (c : Fin 4) (S : Finset (Fin 4096)) (hS : S.card = 50)
    (hR : ∀ j, at3 R c j = ((if j ∈ S then (Select.rank S j : ℝ) else 0 : ℝ) : EReal)) (k : Fin 50) (d : Fin 256) :
    rowsB R (slab G 0) (slab G 1) (slab G 2) (slab G 3) (ix2 ⟨c.val * 64 + k.val, by omega⟩ d) = feat G (S.orderEmbOfFin hS k) d := by
  have he : ∀ j : Fin 4096, at3 R c j = (((k.val : ℝ) + 1 : ℝ) : EReal) ↔ j = S.orderEmbOfFin hS k := by
    intro j
    rw [← Select.mem_rank_iff S hS, hR, EReal.coe_eq_coe_iff]
    by_cases h : j ∈ S
    · rw [if_pos h]
      constructor
      · intro h'; exact ⟨h, by exact_mod_cast h'⟩
      · rintro ⟨-, h'⟩; exact_mod_cast h'
    · rw [if_neg h]
      constructor
      · intro h'; have : (0 : ℝ) ≤ k.val := Nat.cast_nonneg _; linarith
      · rintro ⟨h', -⟩; exact absurd h' h
  have hk : k.val < 64 := by omega
  obtain ⟨c, hc⟩ := c
  have cases : c = 0 ∨ c = 1 ∨ c = 2 ∨ c = 3 := by omega
  rcases cases with rfl | rfl | rfl | rfl
  · rw [← pickB_at G (extractStridedSlice S1x32x128 ![0, 0, 0] R slices_S4x32x128_o0_0_0_S1x32x128) ⟨k.val, hk⟩ _ (by
      intro j; rw [← he j]; unfold at3; pointwise [])]
    pointwise [rowsB]
    split_ifs <;> first | omega | exact congrArg (fun i => pickB _ _ _ _ _ (ix2 i d)) (Fin.ext (by simp only <;> omega))
  · rw [← pickB_at G (extractStridedSlice S1x32x128 ![1, 0, 0] R slices_S4x32x128_o1_0_0_S1x32x128) ⟨k.val, hk⟩ _ (by
      intro j; rw [← he j]; unfold at3; pointwise [])]
    pointwise [rowsB]
    split_ifs <;> first | omega | exact congrArg (fun i => pickB _ _ _ _ _ (ix2 i d)) (Fin.ext (by simp only <;> omega))
  · rw [← pickB_at G (extractStridedSlice S1x32x128 ![2, 0, 0] R slices_S4x32x128_o2_0_0_S1x32x128) ⟨k.val, hk⟩ _ (by
      intro j; rw [← he j]; unfold at3; pointwise [])]
    pointwise [rowsB]
    split_ifs <;> first | omega | exact congrArg (fun i => pickB _ _ _ _ _ (ix2 i d)) (Fin.ext (by simp only <;> omega))
  · rw [← pickB_at G (extractStridedSlice S1x32x128 ![3, 0, 0] R slices_S4x32x128_o3_0_0_S1x32x128) ⟨k.val, hk⟩ _ (by
      intro j; rw [← he j]; unfold at3; pointwise [])]
    pointwise [rowsB]
    split_ifs <;> first | omega | exact congrArg (fun i => pickB _ _ _ _ _ (ix2 i d)) (Fin.ext (by simp only <;> omega))

theorem unitB_at (g : FVec Ideal S256x256 .f32) (i j : Fin 256) : unitB g (ix2 i j) = hat (fun c => g (ix2 i c)) j := by
  pointwise [unitB, fill]
  rfl

/-- The `k`-th token chosen for class `c`. -/
def nth (M : Fin 4096 → Fin 4 → EReal) (c : Fin 4) (k : Fin 50) : Fin 4096 :=
  (picked M c).orderEmbOfFin (Select.card_chosen _ 50 (by decide)) k

theorem sum_nth (M : Fin 4096 → Fin 4 → EReal) (c : Fin 4) (f : Fin 4096 → ℝ) : ∑ k, f (nth M c k) = ∑ j ∈ picked M c, f j :=
  Select.sum_orderEmb _ _ f

theorem negB_at (G : Vec Ideal S4x256x1024 .f32) (M : Vec Ideal S4x4x1024 .f32) (c : Fin 4) (k : Fin 50) (d : Fin 256) :
    negB G M (ix2 ⟨c.val * 64 + k.val, by omega⟩ d) = hat (feat G (nth (row4 (catB M)) c k)) d := by
  have hv : at3 (valT (smB (catB M))) c = val (row4 (catB M)) c := funext fun j => valT_at _ c j
  have hS : ∀ j, at3 (selB (valT (smB (catB M))) (thrB (valT (smB (catB M))))) c j = 1#1 ↔ j ∈ picked (row4 (catB M)) c := by
    intro j; rw [sel_iff, hv]; rfl
  unfold negB
  rw [unitB_at]
  congr 1
  funext d
  exact rowsB_at G _ c _ (Select.card_chosen _ 50 (by decide)) (rankB_at _ c _ hS) k d

/-! ## The losses -/

/-- Column `l` of a block of features. -/
def col (x : FVec Ideal S256x1024 .f32) (l : Fin 1024) (c : Fin 256) : EReal := x (ix2 c l)

theorem nmB_at (x : FVec Ideal S256x1024 .f32) (l : Fin 1024) : nmB x (ix2 0 l) = nm (col x l) := by
  pointwise [nmB, colB, fill]
  rfl

theorem nomB_at (x p : FVec Ideal S256x1024 .f32) (l : Fin 1024) {u w : Fin 256 → ℝ} (hu : Row (col x l) u) (hw : Row (col p l) w) :
    nomB x p (ix2 0 l) = ((sim u w : ℝ) : EReal) := by
  have h := cos_raw hu hw
  pointwise [nomB, colB, fill]
  rw [nmB_at, nmB_at]
  show Ideal.exp (Ideal.div (Ideal.div (dot (col x l) (col p l)) _) _) = _
  rw [h, exp_div_tau]
  rfl

theorem dotsB_at (g : FVec Ideal S256x256 .f32) (sg : FVec Ideal S1x1024 .f32) (x : FVec Ideal S256x1024 .f32) (k : Fin 64) (l : Fin 1024)
    (c : Fin 4) (hc : sg (ix2 0 l) = ((c.val : ℝ) : EReal)) :
    dotsB g sg x (ix2 k l) = ∑ d, g (ix2 ⟨c.val * 64 + k.val, by omega⟩ d) * col x l d := by
  pointwise [dotsB, fill]
  rw [hc, lit_2, lit_3]
  have h1 : (1 : EReal) = ((1 : ℝ) : EReal) := rfl
  have e3 : (c.val : ℝ) = 3 ↔ c.val = 3 := by exact_mod_cast Iff.rfl
  have e2 : (c.val : ℝ) = 2 ↔ c.val = 2 := by exact_mod_cast Iff.rfl
  have e1 : (c.val : ℝ) = 1 ↔ c.val = 1 := by exact_mod_cast Iff.rfl
  simp only [h1, EReal.coe_eq_coe_iff, e1, e2, e3]
  split_ifs <;> refine Finset.sum_congr rfl fun i _ => congrArg (fun r => g (ix2 r i) * x (ix2 i l)) (Fin.ext ?_) <;>
    simp only <;> omega

theorem kept_iff (k : Fin 64) : k0_pay32 (F := Ideal) (ix2 k 0) = 1#1 ↔ k.val < 50 := by
  pointwise [k0_pay32]
  have h64 : (((64#32).toInt : ℝ) : EReal) = ((64 : ℝ) : EReal) := by
    have : (64#32).toInt = 64 := by decide
    rw [this]; norm_cast
  have hr : Ideal.remf ((k.val : ℝ) : EReal) ((64 : ℝ) : EReal) = ((k.val : ℝ) : EReal) := by
    rw [Ideal.remf_coe, if_neg (by norm_num)]
    have h0 : (0 : ℝ) ≤ k.val / 64 := by positivity
    have h1 : ((k.val : ℝ) / 64) < 1 := by
      rw [div_lt_one (by norm_num)]; exact_mod_cast k.isLt
    have : Ideal.truncInt ((k.val : ℝ) / 64) = 0 := by
      unfold Ideal.truncInt
      rw [if_pos h0, Int.floor_eq_zero_iff]
      exact ⟨h0, h1⟩
    rw [this]; simp
  have hn : ¬ ((k.val : ℝ) : EReal) < 0 := not_lt.mpr (EReal.coe_nonneg.mpr (Nat.cast_nonneg _))
  have h4 : ¬ ((64 : ℝ) : EReal) < 0 := not_lt.mpr (EReal.coe_nonneg.mpr (by norm_num))
  rw [num_nat _ (by omega), h64, hr, lit_50]
  have : ∀ b : BitVec 1, IntOp.andi (IntOp.xori (BitVec.ofBool false) (BitVec.ofBool false)) b = 0#1 := by decide
  rw [decide_eq_false hn, decide_eq_false h4, this, ofBool_iff]
  show ((k.val : ℝ) : EReal) < _ ↔ _
  rw [EReal.coe_lt_coe_iff]
  exact_mod_cast Iff.rfl

theorem denB_at (s : FVec Ideal S64x1024 .f32) (rn nom : FVec Ideal S1x1024 .f32) (l : Fin 1024) (E : Fin 50 → ℝ) (a : ℝ)
    (hs : ∀ k : Fin 50, Ideal.exp (Ideal.div (s (ix2 ⟨k.val, by omega⟩ l)) (rn (ix2 0 l) * Ideal.ofBits .f32 0x3D8F5C29#32)) = ((E k : ℝ) : EReal))
    (ha : nom (ix2 0 l) = (a : EReal)) : denB s rn nom (ix2 0 l) = ((∑ k, E k + a : ℝ) : EReal) := by
  pointwise [denB, fill]
  rw [ha, EReal.coe_add, ← coe_sum]
  congr 1
  refine (Fin.sum_univ_add (a := 50) (b := 14) _).trans ?_
  refine (congrArg₂ (· + ·) (Finset.sum_congr rfl fun k _ => ?_) (Finset.sum_eq_zero fun k _ => ?_)).trans (add_zero _)
  · rw [select_if _ _ (kept_iff _), if_pos (by simp)]
    exact hs k
  · rw [select_if _ _ (kept_iff _), if_neg (by simp)]

theorem lossB_at (nom d1 d2 : FVec Ideal S1x1024 .f32) (a b1 b2 : Fin 1024 → ℝ) (ha : ∀ l, 0 < a l) (h1 : ∀ l, 0 < b1 l) (h2 : ∀ l, 0 < b2 l)
    (hn : ∀ l, nom (ix2 0 l) = (a l : EReal)) (hd1 : ∀ l, d1 (ix2 0 l) = (b1 l : EReal)) (hd2 : ∀ l, d2 (ix2 0 l) = (b2 l : EReal)) :
    lossB nom d1 d2 (ix2 0 0) = ((∑ l, (- Real.log (a l / (b1 l + smallR)) - Real.log (a l / (b2 l + smallR))) : ℝ) : EReal) := by
  pointwise [lossB, fill]
  rw [← coe_sum]
  refine Finset.sum_congr rfl fun l _ => ?_
  rw [hn, hd1, hd2, log_share (ha l) (h1 l), log_share (ha l) (h2 l), ← EReal.coe_zero, ← EReal.coe_sub, ← EReal.coe_sub, zero_sub]

/-- One batch's loss, from its rows, its classes and the chosen rows of each class. -/
theorem batchB_at (g : FVec Ideal S256x256 .f32) (sg : FVec Ideal S1x1024 .f32) (xs ps : Vec Ideal S1x256x1024 .f32)
    (x p : Fin 1024 → Fin 256 → EReal) (u w : Fin 1024 → Fin 256 → ℝ) (hx : ∀ l c, xs (ix3 0 c l) = x l c) (hp : ∀ l c, ps (ix3 0 c l) = p l c)
    (hu : ∀ l, Row (x l) (u l)) (hw : ∀ l, Row (p l) (w l)) (cl : Fin 1024 → Fin 4) (hc : ∀ l, sg (ix2 0 l) = (((cl l).val : ℝ) : EReal))
    (M : Fin 4096 → Fin 4 → EReal) (v : Fin 4096 → Fin 256 → ℝ)
    (hg : ∀ (c : Fin 4) (k : Fin 50) (d : Fin 256), g (ix2 ⟨c.val * 64 + k.val, by omega⟩ d) = ((v (nth M c k) d : ℝ) : EReal)) :
    batchB g sg xs ps (ix2 0 0) = ((∑ l, loss (u l) (w l) v (picked M (cl l)) : ℝ) : EReal) := by
  have ex : ∀ l, col (shapeCast S256x1024 xs shapeCasts_S1x256x1024_S256x1024) l = x l := by
    intro l; funext c; unfold col; pointwise []; exact hx l c
  have ep : ∀ l, col (shapeCast S256x1024 ps shapeCasts_S1x256x1024_S256x1024) l = p l := by
    intro l; funext c; unfold col; pointwise []; exact hp l c
  have half : ∀ (y : FVec Ideal S256x1024 .f32) (l : Fin 1024) (r : Fin 256 → ℝ), Row (col y l) r → ∀ k : Fin 50,
      Ideal.exp (Ideal.div (dotsB g sg y (ix2 ⟨k.val, by omega⟩ l)) (nmB y (ix2 0 l) * Ideal.ofBits .f32 0x3D8F5C29#32))
        = ((sim r (v (nth M (cl l) k)) : ℝ) : EReal) := by
    intro y l r hr k
    rw [dotsB_at g sg y _ l (cl l) (hc l), nmB_at]
    simp only [hg]
    rw [cos_half hr (v _), Ideal.exp_coe]
    rfl
  have pos : ∀ (l : Fin 1024) (r : Fin 256 → ℝ), 0 < ∑ j ∈ picked M (cl l), sim r (v j) + sim (u l) (w l) :=
    fun l r => add_pos_of_nonneg_of_pos (Finset.sum_nonneg fun _ _ => (sim_pos _ _).le) (sim_pos _ _)
  have hn : ∀ l, nomB (F := Ideal) (shapeCast S256x1024 xs shapeCasts_S1x256x1024_S256x1024) (shapeCast S256x1024 ps shapeCasts_S1x256x1024_S256x1024) (ix2 0 l)
      = ((sim (u l) (w l) : ℝ) : EReal) := fun l => nomB_at _ _ l (by rw [ex]; exact hu l) (by rw [ep]; exact hw l)
  unfold batchB
  rw [lossB_at _ _ _ (fun l => sim (u l) (w l)) (fun l => ∑ j ∈ picked M (cl l), sim (u l) (v j) + sim (u l) (w l))
    (fun l => ∑ j ∈ picked M (cl l), sim (w l) (v j) + sim (u l) (w l)) (fun _ => sim_pos _ _) (fun l => pos l _) (fun l => pos l _) hn]
  · rfl
  · intro l
    rw [denB_at _ _ _ l _ _ (half _ l (u l) (by rw [ex]; exact hu l)) (hn l), sum_nth M (cl l) fun j => sim (u l) (v j)]
  · intro l
    rw [denB_at _ _ _ l _ _ (half _ l (w l) (by rw [ep]; exact hw l)) (hn l), sum_nth M (cl l) fun j => sim (w l) (v j)]

/-- The kernel's value: the mean loss. -/
theorem outVal_at (X P G : Vec Ideal S4x256x1024 .f32) (L M : Vec Ideal S4x4x1024 .f32) (u w v : Fin 4096 → Fin 256 → ℝ)
    (hu : ∀ i, Row (feat X i) (u i)) (hw : ∀ i, Row (feat P i) (w i)) (hv : ∀ i, Row (feat G i) (v i)) :
    outVal X P G L M (ix2 0 0) = ((total u w v (row4 (catB L)) (row4 (catB M)) : ℝ) : EReal) := by
  rw [outVal_eq]
  dsimp only
  have hg : ∀ (c : Fin 4) (k : Fin 50) (d : Fin 256), negB G M (ix2 ⟨c.val * 64 + k.val, by omega⟩ d) = ((v (nth (row4 (catB M)) c k) d : ℝ) : EReal) := by
    intro c k d
    rw [negB_at]
    exact (hv _).hat d
  have hb : ∀ (b : Fin 4) (sg : FVec Ideal S1x1024 .f32),
      (∀ l : Fin 1024, sg (ix2 0 l) = segB (smB (catB L)) (ix2 0 ⟨b.val * 1024 + l.val, by omega⟩)) →
      batchB (negB G M) sg (slab X b) (slab P b) (ix2 0 0)
        = ((∑ l : Fin 1024, loss (u ⟨b.val * 1024 + l.val, by omega⟩) (w ⟨b.val * 1024 + l.val, by omega⟩) v
            (picked (row4 (catB M)) (cls (row4 (catB L) ⟨b.val * 1024 + l.val, by omega⟩))) : ℝ) : EReal) := by
    intro b sg hs
    exact batchB_at _ sg _ _ (fun l => feat X ⟨b.val * 1024 + l.val, by omega⟩) (fun l => feat P ⟨b.val * 1024 + l.val, by omega⟩)
      (fun l => u ⟨b.val * 1024 + l.val, by omega⟩) (fun l => w ⟨b.val * 1024 + l.val, by omega⟩)
      (fun l c => slab_at X b c l) (fun l c => slab_at P b c l) (fun l => hu _) (fun l => hw _) _ (fun l => (hs l).trans (cls_at _ _)) _ v hg
  have h0 := hb 0 (extractStridedSlice S1x1024 ![0, 0] (segB (smB (catB L))) slices_S1x4096_o0_0_S1x1024) (by
    intro l; pointwise [])
  have h1 := hb 1 (extractStridedSlice S1x1024 ![0, 1024] (segB (smB (catB L))) slices_S1x4096_o0_1024_S1x1024) (by
    intro l; pointwise [])
  have h2 := hb 2 (extractStridedSlice S1x1024 ![0, 2048] (segB (smB (catB L))) slices_S1x4096_o0_2048_S1x1024) (by
    intro l; pointwise [])
  have h3 := hb 3 (extractStridedSlice S1x1024 ![0, 3072] (segB (smB (catB L))) slices_S1x4096_o0_3072_S1x1024) (by
    intro l; pointwise [])
  have ht : total u w v (row4 (catB L)) (row4 (catB M))
      = (∑ b : Fin 4, ∑ l : Fin 1024, loss (u ⟨b.val * 1024 + l.val, by omega⟩) (w ⟨b.val * 1024 + l.val, by omega⟩) v
            (picked (row4 (catB M)) (cls (row4 (catB L) ⟨b.val * 1024 + l.val, by omega⟩)))) / 4096 := by
    unfold total; rw [sum_split 4 1024 4096 rfl]
  generalize total u w v (row4 (catB L)) (row4 (catB M)) = T at ht ⊢
  pointwise [fill]
  rw [ht, Fin.sum_univ_four, h0, h1, h2, h3, lit_4096, ← EReal.coe_add, ← EReal.coe_add, ← EReal.coe_add, div_real _ (by norm_num)]

end Cert.KernelIdeal.Run

end
-- ==== Proof.RefPick.lean ====
/- The reference's classes, the values by which it ranks the negatives, and the negatives it takes, read at a place. -/
module

public import proofs.«01_k».proof.Proof.RefModel
public import proofs.«01_k».proof.Proof.KerPick

@[expose] public section

noncomputable section

namespace Cert.ReferenceIdeal.Run

open Idealize.ShloMosaic Idealize.ShloMosaic.TcCoe
open Cert.ReferenceIdeal
open Cert.ReferenceIdeal.Facts₀ Cert.ReferenceIdeal.Facts
open Cert.Cosine Cert.Spec
open Cert.KernelIdeal.Run (toInt_nat ofBool_iff select_if slt_iff fold_sup ori_iff andi_iff)

/-- The batch, row and column of a token. -/
def tb (j : Fin 4096) : Fin 4 := ⟨j.val / 1024, by omega⟩
def th (j : Fin 4096) : Fin 32 := ⟨j.val / 32 % 32, by omega⟩
def tw (j : Fin 4096) : Fin 32 := ⟨j.val % 32, by omega⟩

/-- A token's features, and its logits. -/
def feat (A : Vec Ideal S4x256x32x32 .f32) (j : Fin 4096) (c : Fin 256) : EReal := A (ix4 (tb j) c (th j) (tw j))
def logit (A : Vec Ideal S4x4x32x32 .f32) (j : Fin 4096) (d : Fin 4) : EReal := A (ix4 (tb j) d (th j) (tw j))

/-! ## The classes -/

theorem reducer_eq :
    (reducer_argmax_f32_i32 : Ideal .f32 × BitVec 32 → Ideal .f32 × BitVec 32 → Ideal .f32 × BitVec 32) = pick key := by
  funext a b
  have h1 : FloatOps.cmpf CmpFPredicate.ogt a.1 b.1 = BitVec.ofBool (decide (b.1 < a.1)) := rfl
  have h2 : FloatOps.cmpf CmpFPredicate.une a.1 a.1 = BitVec.ofBool (decide (a.1 ≠ a.1)) := rfl
  have h3 : FloatOps.cmpf CmpFPredicate.oeq a.1 b.1 = BitVec.ofBool (decide (a.1 = b.1)) := rfl
  have hv : IntOp.ori (FloatOps.cmpf CmpFPredicate.ogt a.1 b.1) (FloatOps.cmpf CmpFPredicate.une a.1 a.1) = 1#1
      ↔ b.1 < a.1 := by rw [ori_iff, h1, h2, ofBool_iff, ofBool_iff]; simp
  unfold reducer_argmax_f32_i32
  refine (congrArg₂ Prod.mk (select_if _ _ hv _ _) (select_if _ (key b < key a) ?_ _ _)).trans ?_
  · rw [ori_iff, hv, andi_iff, h3, ofBool_iff, slt_iff, key_lt, eq_comm (a := a.1)]
  · unfold pick
    by_cases hk : key b < key a
    · rw [if_pos hk, if_pos hk]
      rcases (key_lt a b).mp hk with h | ⟨h, -⟩
      · rw [if_pos h]
      · rw [if_neg (by rw [h]; exact lt_irrefl _)]
        exact congrArg (·, a.2) h
    · rw [if_neg hk, if_neg hk, if_neg fun h => hk ((key_lt a b).mpr (.inl h))]

theorem argmax_at (p : FVec Ideal S4x4x32x32 .f32) (q : IVec S4x4x32x32 32) (c : FVec Ideal S_ .f32) (d : IVec S_ 32)
    (hc : ∀ i, c i = ⊥) (hd : ∀ i, d i = 0#32) (b : Fin 4) (h w : Fin 32)
    (hq : ∀ x : Fin 4, q (ix4 b x h w) = BitVec.ofNat 32 x.val) :
    (Host.argReduce reducer_argmax_f32_i32 p q c d reducesTo_S4x4x32x32_S4x32x32_d1 h_S_ (ix3 b h w)).2
      = BitVec.ofNat 32 (first fun x => p (ix4 b x h w)).val := by
  rw [Ideal.argReduce_eq_reduce2, reducer_eq]
  have := Spec.pick_comm key key_injective
  have := Spec.pick_assoc key key_injective
  show (Host.reduce (pick key) (fun i => (p i, q i)) (fun i => (c i, d i)) reducesTo_S4x4x32x32_S4x32x32_d1 h_S_
    (ix3 b h w)).2 = _
  rw [Host.reduce_eq_fold]
  pointwise []
  simp only [hq, hc, hd]
  exact fold_first _

theorem soft3_at (A : Vec Ideal S4x4x32x32 .f32) (b d : Fin 4) (h w : Fin 32) :
    r_v31 A (ix4 b d h w) = prob (fun d => A (ix4 b d h w)) d := by
  pointwise [r_v31, r_v30, r_v29, r_v28, r_v27, r_v26, r_v25, r_v24, r_v23, r_v22, r_v21, r_cst_2, r_cst_3, r_cst_4]
  simp only [lit_bot, fold_sup, bot_sup_eq]
  rfl

theorem soft4_at (A : Vec Ideal S4x4x32x32 .f32) (b d : Fin 4) (h w : Fin 32) :
    r_v42 A (ix4 b d h w) = prob (fun d => A (ix4 b d h w)) d := by
  pointwise [r_v42, r_v41, r_v40, r_v39, r_v38, r_v37, r_v36, r_v35, r_v34, r_v33, r_v32, r_cst_5, r_cst_6, r_cst_7]
  simp only [lit_bot, fold_sup, bot_sup_eq]
  rfl

theorem cls3_at (A : Vec Ideal S4x4x32x32 .f32) (b : Fin 4) (h w : Fin 32) :
    r_v43 A (ix3 b h w) = BitVec.ofNat 32 (cls fun d => A (ix4 b d h w)).val := by
  unfold r_v43
  refine (argmax_at _ _ _ _ (fun i => ?_) (fun i => ?_) b h w fun x => ?_).trans ?_
  · exact lit_bot
  · rfl
  · rfl
  · simp only [soft3_at]; rfl

theorem cls4_at (A : Vec Ideal S4x4x32x32 .f32) (b : Fin 4) (h w : Fin 32) :
    r_v44 A (ix3 b h w) = BitVec.ofNat 32 (cls fun d => A (ix4 b d h w)).val := by
  unfold r_v44
  refine (argmax_at _ _ _ _ (fun i => ?_) (fun i => ?_) b h w fun x => ?_).trans ?_
  · exact lit_bot
  · rfl
  · rfl
  · simp only [soft4_at]; rfl

theorem best_at (A : Vec Ideal S4x4x32x32 .f32) (b : Fin 4) (h w : Fin 32) :
    r_v45 A (ix3 b h w) = best fun d => A (ix4 b d h w) := by
  pointwise [r_v45, r_cst_8]
  simp only [lit_bot, fold_sup, soft4_at]
  rfl

/-! ## The ranking -/

theorem ne_iff (x y : BitVec 32) : IntOp.cmpi .ne x y = if x = y then 0#1 else 1#1 := by
  by_cases h : x = y
  · rw [if_pos h, h]; simp [IntOp.cmpi]
  · rw [if_neg h]; show BitVec.ofBool (x != y) = _; rw [bne_iff_ne.mpr h]; rfl

theorem val_at (A3 A4 : Vec Ideal S4x4x32x32 .f32) (i j : Fin 4096) :
    r_v66 A3 A4 (ix2 i j) = val (logit A4) (cls (logit A3 i)) j := by
  pointwise [r_v66, r_v65, r_v64, r_v63, r_v62, r_v61, r_v60, r_v59, r_v58, r_v57, r_v48, r_v47, r_v46]
  rw [cls3_at, cls4_at, best_at, ne_iff]
  have hn : ∀ a b : Fin 4, (BitVec.ofNat 32 a.val = BitVec.ofNat 32 b.val) ↔ b = a := by decide
  simp only [hn]
  unfold val
  show _ = if cls (logit A4 j) ≠ cls (logit A3 i) then best (logit A4 j) else 0
  by_cases hc : cls (logit A4 j) = cls (logit A3 i)
  · rw [if_neg (not_not.mpr hc)]
    refine (congrArg (· * _) (congrArg (FloatOps.uitofp (F := Ideal) .f32) (if_pos hc))).trans ?_
    show (((0 : ℕ) : ℝ) : EReal) * _ = 0
    simp
  · rw [if_pos hc]
    refine (congrArg (· * _) (congrArg (FloatOps.uitofp (F := Ideal) .f32) (if_neg hc))).trans ?_
    show (((1 : ℕ) : ℝ) : EReal) * _ = _
    simp only [Nat.cast_one, EReal.coe_one, one_mul]
    rfl

/-- The token taken at place `k` for anchor `i`. -/
def nth (A3 A4 : Vec Ideal S4x4x32x32 .f32) (i : Fin 4096) (k : Fin 50) : Fin 4096 :=
  sortedFrom (fun a b => Ideal.cmp .ogt (r_v66 A3 A4 (ix2 i a)) (r_v66 A3 A4 (ix2 i b)) == 1#1) (k.castLE (by omega))

theorem indices_at (A3 A4 : Vec Ideal S4x4x32x32 .f32) (i : Fin 4096) (k : Fin 50) :
    r_indices A3 A4 (ix2 i k) = BitVec.ofNat 32 (nth A3 A4 i k).val := by
  unfold r_indices nth
  generalize r_v66 A3 A4 = x
  unfold Host.topK Host.sort2
  simp only [show (1 < S4096x4096.rank) from by decide, dif_pos]
  have hj : ∀ (j l : Fin 4096), (ix2 i j : S4096x4096.Idx).along (1 : Fin 2) l = ix2 i l := fun j l => by
    funext b
    match b with
    | ⟨0, _⟩ => rfl
    | ⟨1, _⟩ => rfl
  generalize hf : (fun j : S4096x4096.Idx => iotaInDim S4096x4096 32 _ _) = f
  have hv : ∀ l : Fin 4096, f (ix2 i l) = BitVec.ofNat 32
      (sortedFrom (fun a b => Ideal.cmp .ogt (x (ix2 i a)) (x (ix2 i b)) == 1#1) l).val := fun l => by
    rw [← hf]
    beta_reduce
    erw [hj]
    rw [show (fun a b : Fin 4096 => Ideal.cmp .ogt (x (ix2 i a)) (x (ix2 i b)) == 1#1) = fun a b =>
      Ideal.cmp .ogt (x ((ix2 i l : S4096x4096.Idx).along (1 : Fin 2) a)) (x ((ix2 i l : S4096x4096.Idx).along (1 : Fin 2) b))
        == 1#1 from funext fun a => funext fun b =>
      congrArg₂ (fun s t => Ideal.cmp .ogt (x s) (x t) == 1#1) (hj l a).symm (hj l b).symm]
    rfl
  rw [← hv]
  pointwise []
  rfl

theorem sum_nth (A3 A4 : Vec Ideal S4x4x32x32 .f32) (i : Fin 4096) {M : Type*} [AddCommMonoid M] (f : Fin 4096 → M) :
    ∑ k, f (nth A3 A4 i k) = ∑ j ∈ picked (logit A4) (cls (logit A3 i)), f j := by
  unfold nth picked
  refine Select.sum_sortedFrom (val (logit A4) (cls (logit A3 i))) _ (fun a b => ?_) 50 (by omega) f
  rw [val_at, val_at, beq_iff_eq]
  exact ofBool_iff _

theorem place_at (A3 A4 : Vec Ideal S4x4x32x32 .f32) (k : Fin 50) (i : Fin 4096) :
    r_v73 A3 A4 (ix3 k i 0) = BitVec.ofNat 32 (nth A3 A4 i k).val := by
  pointwise [r_v73, r_v72, r_v71, r_v70, r_v69, r_v68, r_v67, r_c, r_c_11]
  rw [indices_at, select_if _ _ (slt_iff _ _), if_neg]
  rw [toInt_nat _ (by omega)]
  exact not_lt.mpr (Int.natCast_nonneg _)

/-- Rows of 256 taken by their number. -/
abbrev rowDims : GatherDims S4096x256 S50x4096x1 S50x4096x256 :=
  gather_S4096x256_S50x4096x1_S50x4096x256_2_0_n_n_0_2_1256

theorem taken_at (A2 : Vec Ideal S4x256x32x32 .f32) (A3 A4 : Vec Ideal S4x4x32x32 .f32) (k : Fin 50) (i : Fin 4096)
    (c : Fin 256) : r_v74 A2 A3 A4 (ix3 k i c) = r_v20 A2 (ix2 (nth A3 A4 i k) c) := by
  have hp := place_at A3 A4 k i
  unfold r_v74
  generalize r_v73 A3 A4 = p at hp ⊢
  generalize nth A3 A4 i k = n at hp ⊢
  unfold Host.gather
  beta_reduce
  congr 1
  funext a
  refine Fin.ext ?_
  show rowDims.start (ix3 k i c) p a + rowDims.batchCoord (ix3 k i c) a + rowDims.offCoord (ix3 k i c) a = _
  rw [GatherDims.batchCoord_eq_zero _ _ _ List.not_mem_nil]
  have h01 : a = 0 ∨ a = 1 := by
    match a with
    | ⟨0, _⟩ => exact .inl rfl
    | ⟨1, _⟩ => exact .inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ rowDims.startIndexMap from List.mem_singleton.mpr rfl)]
    have hs : rowDims.siIdx (ix3 k i c) ⟨List.idxOf (0 : Fin 2) rowDims.startIndexMap,
        List.idxOf_lt_length_iff.2 (List.mem_singleton.mpr rfl)⟩ = ix3 k i 0 := by
      funext b
      refine Fin.ext ?_
      match b with
      | ⟨0, _⟩ => rfl
      | ⟨1, _⟩ => rfl
      | ⟨2, _⟩ => rfl
    rw [hs, hp, toInt_nat _ (by omega)]
    show min n.val 4095 + 0 + 0 = n.val
    omega
  · unfold GatherDims.start
    rw [dif_neg (show (1 : Fin 2) ∉ rowDims.startIndexMap by decide)]
    show 0 + 0 + c.val = c.val
    omega

end Cert.ReferenceIdeal.Run

end
-- ==== Proof.RefVal.lean ====
/- The reference's result: the loss as plain mathematics. -/
module

public import proofs.«01_k».proof.Proof.RefPick

@[expose] public section

noncomputable section

namespace Cert.ReferenceIdeal.Run

open Idealize.ShloMosaic Idealize.ShloMosaic.TcCoe
open Cert.ReferenceIdeal
open Cert.ReferenceIdeal.Facts₀ Cert.ReferenceIdeal.Facts
open Cert.Cosine Cert.Spec

/-! ## The normalised rows -/

theorem anchor_at (A : Vec Ideal S4x256x32x32 .f32) (i : Fin 4096) (c : Fin 256) :
    r_v6 A (ix2 i c) = hat (feat A i) c := by
  have h : ∀ c, r_v1 A (ix2 i c) = feat A i c := fun c => by pointwise [r_v1, r_v0]; rfl
  pointwise [r_v6, r_v5, r_v4, r_v3, r_v2, r_call0_v2, r_call0_v1, r_call0_v0, r_cst, r_call0_cst]
  simp only [h]
  rfl

theorem posit_at (A : Vec Ideal S4x256x32x32 .f32) (i : Fin 4096) (c : Fin 256) :
    r_v13 A (ix2 i c) = hat (feat A i) c := by
  have h : ∀ c, r_v8 A (ix2 i c) = feat A i c := fun c => by pointwise [r_v8, r_v7]; rfl
  pointwise [r_v13, r_v12, r_v11, r_v10, r_v9, r_call1_v2, r_call1_v1, r_call1_v0, r_cst_0, r_call1_cst]
  simp only [h]
  rfl

theorem negat_at (A : Vec Ideal S4x256x32x32 .f32) (i : Fin 4096) (c : Fin 256) :
    r_v20 A (ix2 i c) = hat (feat A i) c := by
  have h : ∀ c, r_v15 A (ix2 i c) = feat A i c := fun c => by pointwise [r_v15, r_v14]; rfl
  pointwise [r_v20, r_v19, r_v18, r_v17, r_v16, r_call2_v2, r_call2_v1, r_call2_v0, r_cst_1, r_call2_cst]
  simp only [h]
  rfl

/-! ## The cosines -/

section
variable (A0 A1 A2 : Vec Ideal S4x256x32x32 .f32) (A3 A4 : Vec Ideal S4x4x32x32 .f32)
variable (u w v : Fin 4096 → Fin 256 → ℝ)
variable (hu : ∀ i, Row (feat A0 i) (u i)) (hw : ∀ i, Row (feat A1 i) (w i)) (hv : ∀ i, Row (feat A2 i) (v i))

include hu hw in
theorem pair_at (i : Fin 4096) : r_v87 A0 A1 (ix1 i) = ((sim (u i) (w i) : ℝ) : EReal) := by
  have h : r_v56 A0 A1 (ix1 i) = ((∑ c, u i c * w i c : ℝ) : EReal) := by
    pointwise [r_v56, r_v55, r_v54, r_v53, r_v52, r_v51, r_v50, r_v49, r_call5_v1, r_call5_v0, r_call5_cst,
      r_call6_v1, r_call6_v0, r_call6_cst, r_cst_9]
    simp only [anchor_at, posit_at]
    exact cos_hat (hu i) (hw i)
  generalize ht : r_v56 A0 A1 = t at h
  pointwise [r_v87, r_v86, r_v85, r_cst_14, ht]
  rw [h]
  exact exp_div_tau _

include hu hv in
theorem anchorNeg_at (k : Fin 50) (i : Fin 4096) :
    r_v84 A0 A2 A3 A4 (ix2 k i) = ((∑ c, u i c * v (nth A3 A4 i k) c : ℝ) : EReal) := by
  pointwise [r_v84, r_v83, r_v82, r_v81, r_v80, r_v79, r_v78, r_v77, r_v76, r_v75, r_call7_v1, r_call7_v0,
    r_call7_cst, r_call8_v1, r_call8_v0, r_call8_cst, r_cst_12, r_cst_13]
  simp only [anchor_at, taken_at, negat_at]
  exact cos_hat (hu i) (hv (nth A3 A4 i k))

include hw hv in
theorem positNeg_at (k : Fin 50) (i : Fin 4096) :
    r_v109 A1 A2 A3 A4 (ix2 k i) = ((∑ c, w i c * v (nth A3 A4 i k) c : ℝ) : EReal) := by
  pointwise [r_v109, r_v108, r_v107, r_v106, r_v105, r_v104, r_v103, r_v102, r_v101, r_v100, r_call9_v1,
    r_call9_v0, r_call9_cst, r_call10_v1, r_call10_v0, r_call10_cst, r_cst_20, r_cst_21]
  simp only [posit_at, taken_at, negat_at]
  exact cos_hat (hw i) (hv (nth A3 A4 i k))

/-! ## The losses -/

/-- One token's logarithm: the anchor's similarity to its positive over its similarities to the taken negatives. -/
theorem share_at (a : ℝ) (ha : 0 < a) (x : Fin 256 → ℝ) (i : Fin 4096) :
    Ideal.log (Ideal.div (a : EReal) ((∑ k : Fin 50, Ideal.exp (Ideal.div
        ((∑ c, x c * v (nth A3 A4 i k) c : ℝ) : EReal) (Ideal.ofBits .f32 0x3D8F5C29#32))) + (a : EReal)
        + Ideal.ofBits .f32 0x322BCC77#32))
      = ((share a x v (picked (logit A4) (cls (logit A3 i))) : ℝ) : EReal) := by
  have hs : ∑ k : Fin 50, Real.exp ((∑ c, x c * v (nth A3 A4 i k) c) / tauR)
      = ∑ j ∈ picked (logit A4) (cls (logit A3 i)), sim x (v j) := sum_nth A3 A4 i fun j => sim x (v j)
  simp only [exp_div_tau]
  rw [coe_sum, hs, ← EReal.coe_add, log_share ha (add_pos_of_nonneg_of_pos
    (Finset.sum_nonneg fun j _ => (sim_pos _ _).le) ha)]
  rfl

include hu hw hv in
theorem result_at : r_v123 A0 A1 A2 A3 A4 (ix2 0 0) = ((total u w v (logit A3) (logit A4) : ℝ) : EReal) := by
  have h99 : r_v99 A0 A1 A2 A3 A4 ix0 = ((-((∑ i, share (sim (u i) (w i)) (u i) v
      (picked (logit A4) (cls (logit A3 i)))) / 4096) : ℝ) : EReal) := by
    pointwise [r_v99, r_v98, r_v97, r_v96, r_v95, r_v94, r_v93, r_v92, r_v91, r_v90, r_v89, r_v88, r_cst_15, r_cst_16,
      r_cst_17, r_cst_18, r_cst_19]
    simp only [pair_at A0 A1 u w hu hw, anchorNeg_at A0 A2 A3 A4 u v hu hv]
    simp only [share_at A3 A4 v _ (sim_pos _ _)]
    rw [coe_sum, lit_4096, div_real _ (by norm_num)]
    rfl
  have h121 : r_v121 A0 A1 A2 A3 A4 ix0 = ((-((∑ i, share (sim (u i) (w i)) (w i) v
      (picked (logit A4) (cls (logit A3 i)))) / 4096) : ℝ) : EReal) := by
    pointwise [r_v121, r_v120, r_v119, r_v118, r_v117, r_v116, r_v115, r_v114, r_v113, r_v112, r_v111, r_v110, r_cst_22,
      r_cst_23, r_cst_24, r_cst_25, r_cst_26]
    simp only [pair_at A0 A1 u w hu hw, positNeg_at A1 A2 A3 A4 w v hw hv]
    simp only [share_at A3 A4 v _ (sim_pos _ _)]
    rw [coe_sum, lit_4096, div_real _ (by norm_num)]
    rfl
  pointwise [r_v123, r_v122]
  rw [h99, h121, ← EReal.coe_add]
  congr 1
  unfold total loss
  rw [Finset.sum_sub_distrib, Finset.sum_neg_distrib]
  ring

end

end Cert.ReferenceIdeal.Run

end
-- ==== Proof.Final.lean ====
/- The two results are equal: the kernel's arrays are the arguments with rows and columns in one axis, and the
   precondition is what both readings ask of the rows. -/
module

public import proofs.«01_k».proof.Defs
public import proofs.«01_k».proof.Proof.KerRows
public import proofs.«01_k».proof.Proof.RefVal
public import proofs.«01_k».proof.Proof.Launch
public import proofs.«01_k».proof.Proof.RefRun

@[expose] public section

noncomputable section

namespace Cert.Final

open Idealize.ShloMosaic Idealize.ShloMosaic.TcCoe Idealize.SL.Sem
open Cert.Cosine Cert.Spec

/-! ## The precondition -/

theorem preFacts : Cert.Pre_norms_zero_or_not_tiny.Facts where
  reducesTo_S4x256x32x32_S4x32x32_d1 := by decide
  h_S_ := by decide
  bcast_S_S4x32x32 := by decide
  reducesTo_S4x32x32_S_d0_1_2 := by decide

section
open Cert.Pre_norms_zero_or_not_tiny

/-- The condition on one array: its tokens' norms, each compared with zero and with the clamp. -/
def normOk [Facts] (A : FVec Ideal S4x256x32x32 .f32) : IVec S4x32x32 1 :=
  ori (cmpf .oeq (Host.sqrt (Host.reduceAdd (mulf A A) (constant S_ .f32 0x00000000#32)
        Facts.reducesTo_S4x256x32x32_S4x32x32_d1 Facts.h_S_))
      (broadcastInDim S4x32x32 ![] Facts.bcast_S_S4x32x32 (constant S_ .f32 0x00000000#32)))
    (cmpf .oge (Host.sqrt (Host.reduceAdd (mulf A A) (constant S_ .f32 0x00000000#32)
        Facts.reducesTo_S4x256x32x32_S4x32x32_d1 Facts.h_S_))
      (broadcastInDim S4x32x32 ![] Facts.bcast_S_S4x32x32 (constant S_ .f32 0x2B8CBCCC#32)))

def allOf [Facts] (x : IVec S4x32x32 1) : IVec S_ 1 :=
  Host.reduce IntOp.andi x (constantI S_ 1 1#1) Facts.reducesTo_S4x32x32_S_d0_1_2 Facts.h_S_

theorem fn_eq [Facts] (A0 A1 A2 : FVec Ideal S4x256x32x32 .f32) (A3 A4 : FVec Ideal S4x4x32x32 .f32) :
    fn A0 A1 A2 A3 A4 = andi (andi (allOf (normOk A0)) (allOf (normOk A1))) (allOf (normOk A2)) := rfl

theorem allOf_iff [Facts] (x : IVec S4x32x32 1) (h : allOf x ix0 = 1#1) (i : S4x32x32.Idx) : x i = 1#1 := by
  have : Std.Commutative (IntOp.andi : BitVec 1 → BitVec 1 → BitVec 1) := ⟨by decide⟩
  have : Std.Associative (IntOp.andi : BitVec 1 → BitVec 1 → BitVec 1) := ⟨by decide⟩
  unfold allOf at h
  rw [Host.reduce_eq_fold] at h
  exact ((Finset.fold_op_rel_iff_and (r := fun _ y => y = 1#1) (c := 1#1)
    (fun {_ y z} => Cert.KernelIdeal.Run.andi_iff y z)).mp h).2 i
      (Finset.mem_filter.mpr ⟨Finset.mem_univ _, funext fun a => a.elim0⟩)

theorem ok_of_normOk [Facts] (A : FVec Ideal S4x256x32x32 .f32) (h : allOf (normOk A) ix0 = 1#1) (j : Fin 4096) :
    Ok (Cert.ReferenceIdeal.Run.feat A j) := by
  have := allOf_iff _ h (ix3 (Cert.ReferenceIdeal.Run.tb j) (Cert.ReferenceIdeal.Run.th j) (Cert.ReferenceIdeal.Run.tw j))
  revert this
  pointwise [normOk]
  intro h
  rw [Cert.KernelIdeal.Run.ori_iff] at h
  refine h.imp (fun h => ?_) (fun h => ?_)
  · exact (Cert.KernelIdeal.Run.ofBool_iff _).mp h
  · exact (Cert.KernelIdeal.Run.ofBool_iff _).mp h

end

/-! ## The arrays -/

theorem feat_eq (A : Vec Ideal Cert.KernelIdeal.S4x256x32x32 .f32) (j : Fin 4096) :
    Cert.KernelIdeal.Run.feat (shapeCast Cert.KernelIdeal.S4x256x1024 A
      Cert.KernelIdeal.Gen.shapeCasts_S4x256x32x32_S4x256x1024) j = Cert.ReferenceIdeal.Run.feat A j := by
  funext c
  unfold Cert.KernelIdeal.Run.feat Cert.ReferenceIdeal.Run.feat
  pointwise []
  refine congrArg A (congrArg₂ (ix4 _ _) (Fin.ext ?_) (Fin.ext ?_))
  · show j.val % 1024 / 32 = j.val / 32 % 32
    omega
  · show j.val % 1024 % 32 = j.val % 32
    omega

theorem slabL_at (A : Vec Ideal Cert.KernelIdeal.S4x4x32x32 .f32) (b d : Fin 4) (l : Fin 1024) (j : Fin 4096)
    (hj : j.val = b.val * 1024 + l.val) :
    Cert.KernelIdeal.Run.slabL (shapeCast Cert.KernelIdeal.S4x4x1024 A
      Cert.KernelIdeal.Gen.shapeCasts_S4x4x32x32_S4x4x1024) b (ix3 0 d l) = Cert.ReferenceIdeal.Run.logit A j d := by
  have h : Cert.KernelIdeal.Run.slabL (shapeCast Cert.KernelIdeal.S4x4x1024 A
      Cert.KernelIdeal.Gen.shapeCasts_S4x4x32x32_S4x4x1024) b (ix3 0 d l) = shapeCast Cert.KernelIdeal.S4x4x1024 A
      Cert.KernelIdeal.Gen.shapeCasts_S4x4x32x32_S4x4x1024 (ix3 b d l) := by
    unfold Cert.KernelIdeal.Run.slabL
    refine congrArg _ (funext fun a => ?_)
    match a with
    | ⟨0, _⟩ => rfl
    | ⟨1, _⟩ => rfl
    | ⟨2, _⟩ => rfl
  rw [h]
  unfold Cert.ReferenceIdeal.Run.logit
  pointwise []
  have hb : b = Cert.ReferenceIdeal.Run.tb j := Fin.ext (by show b.val = j.val / 1024; omega)
  rw [hb]
  refine congrArg A (congrArg₂ (ix4 _ _) (Fin.ext ?_) (Fin.ext ?_))
  · show l.val / 32 = j.val / 32 % 32
    omega
  · show l.val % 32 = j.val % 32
    omega

theorem logit_eq (A : Vec Ideal Cert.KernelIdeal.S4x4x32x32 .f32) :
    Cert.KernelIdeal.Run.row4 (Cert.KernelIdeal.Run.catB (shapeCast Cert.KernelIdeal.S4x4x1024 A
      Cert.KernelIdeal.Gen.shapeCasts_S4x4x32x32_S4x4x1024)) = Cert.ReferenceIdeal.Run.logit A := by
  funext j d
  unfold Cert.KernelIdeal.Run.row4 Cert.ReferenceIdeal.Run.logit
  pointwise [Cert.KernelIdeal.Run.catB, Cert.KernelIdeal.Gen.k0_pay2]
  by_cases h0 : j.val < 1024
  · rw [dif_pos h0]; exact slabL_at A 0 d _ j (by show j.val = 0 * 1024 + j.val; omega)
  rw [dif_neg h0]
  by_cases h1 : j.val - 1024 < 1024
  · rw [dif_pos h1]; exact slabL_at A 1 d _ j (by show j.val = 1 * 1024 + (j.val - 1024); omega)
  rw [dif_neg h1]
  by_cases h2 : j.val - 1024 - 1024 < 1024
  · rw [dif_pos h2]; exact slabL_at A 2 d _ j (by show j.val = 2 * 1024 + (j.val - 1024 - 1024); omega)
  rw [dif_neg h2]
  exact slabL_at A 3 d _ j (by show j.val = 3 * 1024 + (j.val - 1024 - 1024 - 1024); omega)

section
open Cert.KernelIdeal Cert.KernelIdeal.Gen
variable (m : (ℓ : Loc nD τ sig) → Buf (Elt Ideal) ℓ) (c : Dev nD)

theorem V0 : V m c main_v0 = shapeCast S4x256x1024 (m ((c.tc : Thread nD τ).loc main_arg0)) shapeCasts_S4x256x32x32_S4x256x1024 := rfl
theorem V1 : V m c main_v1 = shapeCast S4x256x1024 (m ((c.tc : Thread nD τ).loc main_arg1)) shapeCasts_S4x256x32x32_S4x256x1024 := rfl
theorem V2 : V m c main_v2 = shapeCast S4x256x1024 (m ((c.tc : Thread nD τ).loc main_arg2)) shapeCasts_S4x256x32x32_S4x256x1024 := rfl
theorem V3 : V m c main_v3 = shapeCast S4x4x1024 (m ((c.tc : Thread nD τ).loc main_arg3)) shapeCasts_S4x4x32x32_S4x4x1024 := rfl
theorem V4 : V m c main_v4 = shapeCast S4x4x1024 (m ((c.tc : Thread nD τ).loc main_arg4)) shapeCasts_S4x4x32x32_S4x4x1024 := rfl

end

/-- Under the precondition the reference's number is the kernel's. -/
theorem results_eq (m : (ℓ : Loc Cert.KernelIdeal.nD Cert.KernelIdeal.τ Cert.KernelIdeal.sig) → Buf (Elt Ideal) ℓ)
    (h : Cert.Pre_KernelIdeal_norms_zero_or_not_tiny (hPre_norms_zero_or_not_tiny := preFacts) m)
    (c : Dev Cert.KernelIdeal.nD) :
    Cert.ReferenceIdeal.Run.r_v123 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      = Cert.KernelIdeal.Run.result m c := by
  have := preFacts
  have hp := h c
  revert hp
  unfold Cert.KernelIdeal.Run.result
  rw [V0, V1, V2, V3, V4]
  generalize m ((c.tc : Thread Cert.KernelIdeal.nD Cert.KernelIdeal.τ).loc Cert.KernelIdeal.main_arg0) = A0
  generalize m ((c.tc : Thread Cert.KernelIdeal.nD Cert.KernelIdeal.τ).loc Cert.KernelIdeal.main_arg1) = A1
  generalize m ((c.tc : Thread Cert.KernelIdeal.nD Cert.KernelIdeal.τ).loc Cert.KernelIdeal.main_arg2) = A2
  generalize m ((c.tc : Thread Cert.KernelIdeal.nD Cert.KernelIdeal.τ).loc Cert.KernelIdeal.main_arg3) = A3
  generalize m ((c.tc : Thread Cert.KernelIdeal.nD Cert.KernelIdeal.τ).loc Cert.KernelIdeal.main_arg4) = A4
  intro hp
  have h1 := congrFun hp ix0
  rw [fn_eq] at h1
  obtain ⟨h01, ok2⟩ := (Cert.KernelIdeal.Run.andi_iff _ _).mp h1
  obtain ⟨ok0, ok1⟩ := (Cert.KernelIdeal.Run.andi_iff _ _).mp h01
  have hu := fun i => row _ (ok_of_normOk A0 ok0 i)
  have hw := fun i => row _ (ok_of_normOk A1 ok1 i)
  have hv := fun i => row _ (ok_of_normOk A2 ok2 i)
  have hk := Cert.KernelIdeal.Run.outVal_at _ _ _
    (shapeCast Cert.KernelIdeal.S4x4x1024 A3 Cert.KernelIdeal.Gen.shapeCasts_S4x4x32x32_S4x4x1024)
    (shapeCast Cert.KernelIdeal.S4x4x1024 A4 Cert.KernelIdeal.Gen.shapeCasts_S4x4x32x32_S4x4x1024)
    (fun i => unitRow (Cert.ReferenceIdeal.Run.feat A0 i)) (fun i => unitRow (Cert.ReferenceIdeal.Run.feat A1 i))
    (fun i => unitRow (Cert.ReferenceIdeal.Run.feat A2 i))
    (fun i => by rw [feat_eq]; exact hu i) (fun i => by rw [feat_eq]; exact hw i) (fun i => by rw [feat_eq]; exact hv i)
  rw [logit_eq, logit_eq] at hk
  have hr := Cert.ReferenceIdeal.Run.result_at A0 A1 A2 A3 A4 _ _ _ hu hw hv
  funext y
  have hy : y = ix2 0 0 := by
    funext a
    match a with
    | ⟨0, _⟩ => exact Subsingleton.elim (α := Fin 1) _ _
    | ⟨1, _⟩ => exact Subsingleton.elim (α := Fin 1) _ _
  rw [hy]
  exact hr.trans hk.symm

/-- From memories agreeing on the arguments, under the precondition, kernel and reference end with one number. -/
theorem algebraic : Cert.algebraic_KernelIdeal_ReferenceIdeal_pre_norms_zero_or_not_tiny
    (hKernelIdeal := Cert.KernelIdeal.Gen.facts) (hReferenceIdeal := Cert.ReferenceIdeal.Gen.facts)
    (hPre_norms_zero_or_not_tiny := preFacts) := fun m g m' g' hp ha => by
  refine ⟨fun c => Cert.KernelIdeal.Run.result m c, Cert.KernelIdeal.Run.value m g,
    (θ_run _ _ _).mono (fun _ h c => ⟨(h c).1.trans ?_, (h c).2⟩) (Cert.ReferenceIdeal.Run.value m' g')⟩
  obtain ⟨h0, h1, h2, h3, h4⟩ := ha c
  rw [h0, h1, h2, h3, h4]
  exact results_eq m hp c

end Cert.Final

end
-- ==== Proof.lean ====
/- The claims and their proofs, put together. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Launch
public import proofs.«01_k».proof.Proof.KernelLaunch
public import proofs.«01_k».proof.Proof.RefRun
public import proofs.«01_k».proof.Proof.Final

@[expose] public section

noncomputable section

namespace Cert.Proof

open Idealize.ShloMosaic Idealize.SL.Sem Cert.Kernel

/-- Every claim of this directory. -/
theorem claim : Cert.Claim :=
  ⟨Cert.Kernel.Gen.facts, Cert.KernelIdeal.Gen.facts, Cert.ReferenceIdeal.Gen.facts, Cert.Final.preFacts,
    fun m ρ _ => Cert.Kernel.Run.frame m ρ, fun m ρ _ => Cert.KernelIdeal.Run.frame m ρ,
    fun m ρ _ => Cert.KernelIdeal.Run.frame m ρ, fun m ρ _ => Cert.ReferenceIdeal.Run.frame m ρ,
    fun m ρ _ => Cert.ReferenceIdeal.Run.frame m ρ, trivial, Cert.Final.algebraic⟩

end Cert.Proof

end
